-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_off_ties [hKernelIdeal : Cert.KernelIdeal.Facts] [hReferenceIdeal : Cert.ReferenceIdeal.Facts] [hOn_off_ties : Cert.On_off_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![768, 8960]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v1_0) i = v0 c i)
          ∧ (∀ i : (⟨2, ![8960, 768]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v1_1) i = v1 c i)
          ∧ (∀ i : (⟨2, ![1536, 4480]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v1_2) i = v2 c i)
          ∧ (∀ i : (⟨2, ![560, 96]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.KernelIdeal.nD Cert.KernelIdeal.τ).loc Cert.KernelIdeal.main_v1_3) i = v3 c i)
          ∧ (∀ i : (⟨1, ![1]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 i = 1#1 → r.2.mem ((c.tc : Thread Cert.KernelIdeal.nD Cert.KernelIdeal.τ).loc Cert.KernelIdeal.main_v1_4) i = v4 c i)
          ∧ (∀ i : (⟨1, ![1]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2 i = 1#1 → r.2.mem ((c.tc : Thread Cert.KernelIdeal.nD Cert.KernelIdeal.τ).loc Cert.KernelIdeal.main_v1_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![768, 8960]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v89) i = v0 c i)
          ∧ (∀ i : (⟨2, ![8960, 768]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v70) i = v1 c i)
          ∧ (∀ i : (⟨2, ![1536, 4480]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v77) i = v2 c i)
          ∧ (∀ i : (⟨2, ![560, 96]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 i = 1#1 → r.2.mem ((c.tc : Thread Cert.ReferenceIdeal.nD Cert.ReferenceIdeal.τ).loc Cert.ReferenceIdeal.main_v13) i = v3 c i)
          ∧ (∀ i : (⟨1, ![1]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 i = 1#1 → r.2.mem ((c.tc : Thread Cert.ReferenceIdeal.nD Cert.ReferenceIdeal.τ).loc Cert.ReferenceIdeal.main_v90) i = v4 c i)
          ∧ (∀ i : (⟨1, ![1]⟩ : Shape).Idx, (Cert.On_off_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2 i = 1#1 → r.2.mem ((c.tc : Thread Cert.ReferenceIdeal.nD Cert.ReferenceIdeal.τ).loc Cert.ReferenceIdeal.main_v5) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_off_ties : Cert.On_off_ties.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_off_ties (hKernelIdeal := hKernelIdeal) (hReferenceIdeal := hReferenceIdeal) (hOn_off_ties := hOn_off_ties)
-- ==== On_off_ties.lean ====
abbrev S6x128x1536 : Shape := ⟨3, ![6, 128, 1536]⟩
abbrev S8960x1536 : Shape := ⟨2, ![8960, 1536]⟩
abbrev S24 : Shape := ⟨1, ![24]⟩
abbrev S560x16x96x16 : Shape := ⟨4, ![560, 16, 96, 16]⟩
abbrev S_ : Shape := ⟨0, ![]⟩
abbrev S560x96 : Shape := ⟨2, ![560, 96]⟩
abbrev S560x1x96x1 : Shape := ⟨4, ![560, 1, 96, 1]⟩
abbrev S8960 : Shape := ⟨1, ![8960]⟩
abbrev S1x8960 : Shape := ⟨2, ![1, 8960]⟩
abbrev S768x8960 : Shape := ⟨2, ![768, 8960]⟩
abbrev S8960x768 : Shape := ⟨2, ![8960, 768]⟩
abbrev S4480x1536 : Shape := ⟨2, ![4480, 1536]⟩
abbrev S1536x4480 : Shape := ⟨2, ![1536, 4480]⟩
abbrev S1 : Shape := ⟨1, ![1]⟩

class Facts : Prop where
  bitsLt_bf16_f32 : FTy.bits .bf16 < FTy.bits .f32
  shapeCasts_S8960x1536_S560x16x96x16 : S8960x1536.ShapeCasts S560x16x96x16
  reducesTo_S560x16x96x16_S560x96_d1_3 : S560x16x96x16.ReducesTo [1, 3] S560x96
  h_S_ : 0 < S_.numel
  reducesTo_S24_S_d0 : S24.ReducesTo [0] S_
  bcast_S_S560x96 : S_.BroadcastsInDim S560x96 (![] : Fin 0 → Fin S560x96.rank)
  bcast_S560x96_S560x1x96x1_0_2 : S560x96.BroadcastsInDim S560x1x96x1 (![0, 2] : Fin 2 → Fin S560x1x96x1.rank)
  bcast_S560x1x96x1_S560x16x96x16_0_1_2_3 : S560x1x96x1.BroadcastsInDim S560x16x96x16 (![0, 1, 2, 3] : Fin 4 → Fin S560x16x96x16.rank)
  shapeCasts_S560x16x96x16_S8960x1536 : S560x16x96x16.ShapeCasts S8960x1536
  bcast_S_S8960x1536 : S_.BroadcastsInDim S8960x1536 (![] : Fin 0 → Fin S8960x1536.rank)
  reducesTo_S8960x1536_S8960_d1 : S8960x1536.ReducesTo [1] S8960
  bcast_S8960_S1x8960_1 : S8960.BroadcastsInDim S1x8960 (![1] : Fin 1 → Fin S1x8960.rank)
  bcast_S1x8960_S768x8960_0_1 : S1x8960.BroadcastsInDim S768x8960 (![0, 1] : Fin 2 → Fin S768x8960.rank)
  slicesBy_S8960x1536_S8960x768_0s1_0s2 : S8960x1536.SlicesBy (![0, 0] : Fin 2 → Nat) ![1, 2] S8960x768
  slicesBy_S8960x1536_S8960x768_0s1_1s2 : S8960x1536.SlicesBy (![0, 1] : Fin 2 → Nat) ![1, 2] S8960x768
  slicesBy_S8960x1536_S4480x1536_0s2_0s1 : S8960x1536.SlicesBy (![0, 0] : Fin 2 → Nat) ![2, 1] S4480x1536
  slicesBy_S8960x1536_S4480x1536_1s2_0s1 : S8960x1536.SlicesBy (![1, 0] : Fin 2 → Nat) ![2, 1] S4480x1536
  transposes_S4480x1536_S1536x4480_1_0 : S4480x1536.Transposes [1, 0] S1536x4480
  bcast_S_S1 : S_.BroadcastsInDim S1 (![] : Fin 0 → Fin S1.rank)

variable [Facts]

def fn_part7 {F : FTy → Type} [FloatOps F] (main_v116 : IVec S768x8960 1) (main_v119 : IVec S8960x768 1) (main_v123 : IVec S1536x4480 1) (main_v124 : IVec S560x96 1) (main_v125 : IVec S1 1) : IVec S768x8960 1 × IVec S8960x768 1 × IVec S1536x4480 1 × IVec S560x96 1 × IVec S1 1 × IVec S1 1 :=
  let main_c_40 : IVec S_ 1 := constantI S_ 1 1#1
  let main_v126 : IVec S1 1 := broadcastInDim S1 ![] bcast_S_S1 main_c_40
  (main_v116, main_v119, main_v123, main_v124, main_v125, main_v126)

def fn_part6 {F : FTy → Type} [FloatOps F] (main_v22 : FVec F S8960x1536 .f32) (main_v24 : FVec F S8960x1536 .f32) (main_v101 : IVec S8960x1536 1) (main_v106 : IVec S8960x1536 1) : IVec S768x8960 1 × IVec S8960x768 1 × IVec S1536x4480 1 × IVec S560x96 1 × IVec S1 1 × IVec S1 1 :=
  let main_v107 : IVec S8960x1536 1 := andi main_v101 main_v106
  let main_cst_36 : FVec F S_ .f32 := constant S_ .f32 0xC0A00000#32
  let main_v108 : FVec F S8960x1536 .f32 := broadcastInDim S8960x1536 ![] bcast_S_S8960x1536 main_cst_36
  let main_v109 : IVec S8960x1536 1 := cmpf .olt main_v24 main_v108
  let main_cst_37 : FVec F S_ .f32 := constant S_ .f32 0xC0A00000#32
  let main_v110 : FVec F S8960x1536 .f32 := broadcastInDim S8960x1536 ![] bcast_S_S8960x1536 main_cst_37
  let main_v111 : IVec S8960x1536 1 := cmpf .oge main_v22 main_v110
  let main_v112 : IVec S8960x1536 1 := ori main_v109 main_v111
  let main_v113 : IVec S8960x1536 1 := andi main_v107 main_v112
  let main_c : IVec S_ 1 := constantI S_ 1 1#1
  let main_v114 : IVec S8960 1 := (fun x v => Host.reduce IntOp.andi x v reducesTo_S8960x1536_S8960_d1 h_S_) main_v113 main_c
  let main_v115 : IVec S1x8960 1 := broadcastInDim S1x8960 ![1] bcast_S8960_S1x8960_1 main_v114
  let main_v116 : IVec S768x8960 1 := broadcastInDim S768x8960 ![0, 1] bcast_S1x8960_S768x8960_0_1 main_v115
  let main_v117 : IVec S8960x768 1 := (Host.slice S8960x768 ![0, 0] ![1, 2] · slicesBy_S8960x1536_S8960x768_0s1_0s2) main_v113
  let main_v118 : IVec S8960x768 1 := (Host.slice S8960x768 ![0, 1] ![1, 2] · slicesBy_S8960x1536_S8960x768_0s1_1s2) main_v113
  let main_v119 : IVec S8960x768 1 := andi main_v117 main_v118
  let main_v120 : IVec S4480x1536 1 := (Host.slice S4480x1536 ![0, 0] ![2, 1] · slicesBy_S8960x1536_S4480x1536_0s2_0s1) main_v113
  let main_v121 : IVec S4480x1536 1 := (Host.slice S4480x1536 ![1, 0] ![2, 1] · slicesBy_S8960x1536_S4480x1536_1s2_0s1) main_v113
  let main_v122 : IVec S4480x1536 1 := andi main_v120 main_v121
  let main_v123 : IVec S1536x4480 1 := (transpose S1536x4480 [1, 0] · transposes_S4480x1536_S1536x4480_1_0) main_v122
  let main_c_38 : IVec S_ 1 := constantI S_ 1 1#1
  let main_v124 : IVec S560x96 1 := broadcastInDim S560x96 ![] bcast_S_S560x96 main_c_38
  let main_c_39 : IVec S_ 1 := constantI S_ 1 1#1
  let main_v125 : IVec S1 1 := broadcastInDim S1 ![] bcast_S_S1 main_c_39
  fn_part7 (F := F) main_v116 main_v119 main_v123 main_v124 main_v125

def fn_part5 {F : FTy → Type} [FloatOps F] (main_v22 : FVec F S8960x1536 .f32) (main_v24 : FVec F S8960x1536 .f32) (main_v83 : IVec S8960x1536 1) (main_v88 : IVec S8960x1536 1) : IVec S768x8960 1 × IVec S8960x768 1 × IVec S1536x4480 1 × IVec S560x96 1 × IVec S1 1 × IVec S1 1 :=
  let main_v89 : IVec S8960x1536 1 := andi main_v83 main_v88
  let main_cst_30 : FVec F S_ .f32 := constant S_ .f32 0xBE800000#32
  let main_v90 : FVec F S8960x1536 .f32 := broadcastInDim S8960x1536 ![] bcast_S_S8960x1536 main_cst_30
  let main_v91 : IVec S8960x1536 1 := cmpf .olt main_v24 main_v90
  let main_cst_31 : FVec F S_ .f32 := constant S_ .f32 0xBE800000#32
  let main_v92 : FVec F S8960x1536 .f32 := broadcastInDim S8960x1536 ![] bcast_S_S8960x1536 main_cst_31
  let main_v93 : IVec S8960x1536 1 := cmpf .oge main_v22 main_v92
  let main_v94 : IVec S8960x1536 1 := ori main_v91 main_v93
  let main_v95 : IVec S8960x1536 1 := andi main_v89 main_v94
  let main_cst_32 : FVec F S_ .f32 := constant S_ .f32 0xBFA00000#32
  let main_v96 : FVec F S8960x1536 .f32 := broadcastInDim S8960x1536 ![] bcast_S_S8960x1536 main_cst_32
  let main_v97 : IVec S8960x1536 1 := cmpf .olt main_v24 main_v96
  let main_cst_33 : FVec F S_ .f32 := constant S_ .f32 0xBFA00000#32
  let main_v98 : FVec F S8960x1536 .f32 := broadcastInDim S8960x1536 ![] bcast_S_S8960x1536 main_cst_33
  let main_v99 : IVec S8960x1536 1 := cmpf .oge main_v22 main_v98
  let main_v100 : IVec S8960x1536 1 := ori main_v97 main_v99
  let main_v101 : IVec S8960x1536 1 := andi main_v95 main_v100
  let main_cst_34 : FVec F S_ .f32 := constant S_ .f32 0xC0200000#32
  let main_v102 : FVec F S8960x1536 .f32 := broadcastInDim S8960x1536 ![] bcast_S_S8960x1536 main_cst_34
  let main_v103 : IVec S8960x1536 1 := cmpf .olt main_v24 main_v102
  let main_cst_35 : FVec F S_ .f32 := constant S_ .f32 0xC0200000#32
  let main_v104 : FVec F S8960x1536 .f32 := broadcastInDim S8960x1536 ![] bcast_S_S8960x1536 main_cst_35
  let main_v105 : IVec S8960x1536 1 := cmpf .oge main_v22 main_v104
  let main_v106 : IVec S8960x1536 1 := ori main_v103 main_v105
  fn_part6 (F := F) main_v22 main_v24 main_v101 main_v106

def fn_part4 {F : FTy → Type} [FloatOps F] (main_v22 : FVec F S8960x1536 .f32) (main_v24 : FVec F S8960x1536 .f32) (main_v65 : IVec S8960x1536 1) (main_v70 : IVec S8960x1536 1) : IVec S768x8960 1 × IVec S8960x768 1 × IVec S1536x4480 1 × IVec S560x96 1 × IVec S1 1 × IVec S1 1 :=
  let main_v71 : IVec S8960x1536 1 := andi main_v65 main_v70
  let main_cst_24 : FVec F S_ .f32 := constant S_ .f32 0x3F400000#32
  let main_v72 : FVec F S8960x1536 .f32 := broadcastInDim S8960x1536 ![] bcast_S_S8960x1536 main_cst_24
  let main_v73 : IVec S8960x1536 1 := cmpf .olt main_v24 main_v72
  let main_cst_25 : FVec F S_ .f32 := constant S_ .f32 0x3F400000#32
  let main_v74 : FVec F S8960x1536 .f32 := broadcastInDim S8960x1536 ![] bcast_S_S8960x1536 main_cst_25
  let main_v75 : IVec S8960x1536 1 := cmpf .oge main_v22 main_v74
  let main_v76 : IVec S8960x1536 1 := ori main_v73 main_v75
  let main_v77 : IVec S8960x1536 1 := andi main_v71 main_v76
  let main_cst_26 : FVec F S_ .f32 := constant S_ .f32 0x3FE00000#32
  let main_v78 : FVec F S8960x1536 .f32 := broadcastInDim S8960x1536 ![] bcast_S_S8960x1536 main_cst_26
  let main_v79 : IVec S8960x1536 1 := cmpf .olt main_v24 main_v78
  let main_cst_27 : FVec F S_ .f32 := constant S_ .f32 0x3FE00000#32
  let main_v80 : FVec F S8960x1536 .f32 := broadcastInDim S8960x1536 ![] bcast_S_S8960x1536 main_cst_27
  let main_v81 : IVec S8960x1536 1 := cmpf .oge main_v22 main_v80
  let main_v82 : IVec S8960x1536 1 := ori main_v79 main_v81
  let main_v83 : IVec S8960x1536 1 := andi main_v77 main_v82
  let main_cst_28 : FVec F S_ .f32 := constant S_ .f32 0x40600000#32
  let main_v84 : FVec F S8960x1536 .f32 := broadcastInDim S8960x1536 ![] bcast_S_S8960x1536 main_cst_28
  let main_v85 : IVec S8960x1536 1 := cmpf .olt main_v24 main_v84
  let main_cst_29 : FVec F S_ .f32 := constant S_ .f32 0x40600000#32
  let main_v86 : FVec F S8960x1536 .f32 := broadcastInDim S8960x1536 ![] bcast_S_S8960x1536 main_cst_29
  let main_v87 : IVec S8960x1536 1 := cmpf .oge main_v22 main_v86
  let main_v88 : IVec S8960x1536 1 := ori main_v85 main_v87
  fn_part5 (F := F) main_v22 main_v24 main_v83 main_v88

def fn_part3 {F : FTy → Type} [FloatOps F] (main_v22 : FVec F S8960x1536 .f32) (main_v24 : FVec F S8960x1536 .f32) (main_v47 : IVec S8960x1536 1) (main_v52 : IVec S8960x1536 1) : IVec S768x8960 1 × IVec S8960x768 1 × IVec S1536x4480 1 × IVec S560x96 1 × IVec S1 1 × IVec S1 1 :=
  let main_v53 : IVec S8960x1536 1 := andi main_v47 main_v52
  let main_cst_18 : FVec F S_ .f32 := constant S_ .f32 0xBF400000#32
  let main_v54 : FVec F S8960x1536 .f32 := broadcastInDim S8960x1536 ![] bcast_S_S8960x1536 main_cst_18
  let main_v55 : IVec S8960x1536 1 := cmpf .ole main_v24 main_v54
  let main_cst_19 : FVec F S_ .f32 := constant S_ .f32 0xBF400000#32
  let main_v56 : FVec F S8960x1536 .f32 := broadcastInDim S8960x1536 ![] bcast_S_S8960x1536 main_cst_19
  let main_v57 : IVec S8960x1536 1 := cmpf .ogt main_v22 main_v56
  let main_v58 : IVec S8960x1536 1 := ori main_v55 main_v57
  let main_v59 : IVec S8960x1536 1 := andi main_v53 main_v58
  let main_cst_20 : FVec F S_ .f32 := constant S_ .f32 0xBFE00000#32
  let main_v60 : FVec F S8960x1536 .f32 := broadcastInDim S8960x1536 ![] bcast_S_S8960x1536 main_cst_20
  let main_v61 : IVec S8960x1536 1 := cmpf .ole main_v24 main_v60
  let main_cst_21 : FVec F S_ .f32 := constant S_ .f32 0xBFE00000#32
  let main_v62 : FVec F S8960x1536 .f32 := broadcastInDim S8960x1536 ![] bcast_S_S8960x1536 main_cst_21
  let main_v63 : IVec S8960x1536 1 := cmpf .ogt main_v22 main_v62
  let main_v64 : IVec S8960x1536 1 := ori main_v61 main_v63
  let main_v65 : IVec S8960x1536 1 := andi main_v59 main_v64
  let main_cst_22 : FVec F S_ .f32 := constant S_ .f32 0xC0600000#32
  let main_v66 : FVec F S8960x1536 .f32 := broadcastInDim S8960x1536 ![] bcast_S_S8960x1536 main_cst_22
  let main_v67 : IVec S8960x1536 1 := cmpf .ole main_v24 main_v66
  let main_cst_23 : FVec F S_ .f32 := constant S_ .f32 0xC0600000#32
  let main_v68 : FVec F S8960x1536 .f32 := broadcastInDim S8960x1536 ![] bcast_S_S8960x1536 main_cst_23
  let main_v69 : IVec S8960x1536 1 := cmpf .ogt main_v22 main_v68
  let main_v70 : IVec S8960x1536 1 := ori main_v67 main_v69
  fn_part4 (F := F) main_v22 main_v24 main_v65 main_v70

def fn_part2 {F : FTy → Type} [FloatOps F] (main_v22 : FVec F S8960x1536 .f32) (main_v24 : FVec F S8960x1536 .f32) (main_v29 : IVec S8960x1536 1) (main_v34 : IVec S8960x1536 1) : IVec S768x8960 1 × IVec S8960x768 1 × IVec S1536x4480 1 × IVec S560x96 1 × IVec S1 1 × IVec S1 1 :=
  let main_v35 : IVec S8960x1536 1 := andi main_v29 main_v34
  let main_cst_12 : FVec F S_ .f32 := constant S_ .f32 0x3FA00000#32
  let main_v36 : FVec F S8960x1536 .f32 := broadcastInDim S8960x1536 ![] bcast_S_S8960x1536 main_cst_12
  let main_v37 : IVec S8960x1536 1 := cmpf .ole main_v24 main_v36
  let main_cst_13 : FVec F S_ .f32 := constant S_ .f32 0x3FA00000#32
  let main_v38 : FVec F S8960x1536 .f32 := broadcastInDim S8960x1536 ![] bcast_S_S8960x1536 main_cst_13
  let main_v39 : IVec S8960x1536 1 := cmpf .ogt main_v22 main_v38
  let main_v40 : IVec S8960x1536 1 := ori main_v37 main_v39
  let main_v41 : IVec S8960x1536 1 := andi main_v35 main_v40
  let main_cst_14 : FVec F S_ .f32 := constant S_ .f32 0x40200000#32
  let main_v42 : FVec F S8960x1536 .f32 := broadcastInDim S8960x1536 ![] bcast_S_S8960x1536 main_cst_14
  let main_v43 : IVec S8960x1536 1 := cmpf .ole main_v24 main_v42
  let main_cst_15 : FVec F S_ .f32 := constant S_ .f32 0x40200000#32
  let main_v44 : FVec F S8960x1536 .f32 := broadcastInDim S8960x1536 ![] bcast_S_S8960x1536 main_cst_15
  let main_v45 : IVec S8960x1536 1 := cmpf .ogt main_v22 main_v44
  let main_v46 : IVec S8960x1536 1 := ori main_v43 main_v45
  let main_v47 : IVec S8960x1536 1 := andi main_v41 main_v46
  let main_cst_16 : FVec F S_ .f32 := constant S_ .f32 0x40A00000#32
  let main_v48 : FVec F S8960x1536 .f32 := broadcastInDim S8960x1536 ![] bcast_S_S8960x1536 main_cst_16
  let main_v49 : IVec S8960x1536 1 := cmpf .ole main_v24 main_v48
  let main_cst_17 : FVec F S_ .f32 := constant S_ .f32 0x40A00000#32
  let main_v50 : FVec F S8960x1536 .f32 := broadcastInDim S8960x1536 ![] bcast_S_S8960x1536 main_cst_17
  let main_v51 : IVec S8960x1536 1 := cmpf .ogt main_v22 main_v50
  let main_v52 : IVec S8960x1536 1 := ori main_v49 main_v51
  fn_part3 (F := F) main_v22 main_v24 main_v47 main_v52

def fn_part1 {F : FTy → Type} [FloatOps F] (main_v0 : FVec F S8960x1536 .f32) (main_v15 : FVec F S8960x1536 .f32) (main_v17 : IVec S8960x1536 1) : IVec S768x8960 1 × IVec S8960x768 1 × IVec S1536x4480 1 × IVec S560x96 1 × IVec S1 1 × IVec S1 1 :=
  let main_cst_5 : FVec F S_ .f32 := constant S_ .f32 0x3F800000#32
  let main_v18 : FVec F S8960x1536 .f32 := broadcastInDim S8960x1536 ![] bcast_S_S8960x1536 main_cst_5
  let main_cst_6 : FVec F S_ .f32 := constant S_ .f32 0x00000000#32
  let main_v19 : FVec F S8960x1536 .f32 := broadcastInDim S8960x1536 ![] bcast_S_S8960x1536 main_cst_6
  let main_v20 : FVec F S8960x1536 .f32 := select main_v17 main_v15 main_v18
  let main_v21 : FVec F S8960x1536 .f32 := Host.divf main_v0 main_v20
  let main_v22 : FVec F S8960x1536 .f32 := select main_v17 main_v21 main_v19
  let main_cst_7 : FVec F S_ .f32 := constant S_ .f32 0x00800000#32
  let main_v23 : FVec F S8960x1536 .f32 := broadcastInDim S8960x1536 ![] bcast_S_S8960x1536 main_cst_7
  let main_v24 : FVec F S8960x1536 .f32 := addf main_v22 main_v23
  let main_cst_8 : FVec F S_ .f32 := constant S_ .f32 0x00000000#32
  let main_v25 : FVec F S8960x1536 .f32 := broadcastInDim S8960x1536 ![] bcast_S_S8960x1536 main_cst_8
  let main_v26 : IVec S8960x1536 1 := cmpf .olt main_v24 main_v25
  let main_cst_9 : FVec F S_ .f32 := constant S_ .f32 0x00000000#32
  let main_v27 : FVec F S8960x1536 .f32 := broadcastInDim S8960x1536 ![] bcast_S_S8960x1536 main_cst_9
  let main_v28 : IVec S8960x1536 1 := cmpf .oge main_v22 main_v27
  let main_v29 : IVec S8960x1536 1 := ori main_v26 main_v28
  let main_cst_10 : FVec F S_ .f32 := constant S_ .f32 0x3E800000#32
  let main_v30 : FVec F S8960x1536 .f32 := broadcastInDim S8960x1536 ![] bcast_S_S8960x1536 main_cst_10
  let main_v31 : IVec S8960x1536 1 := cmpf .ole main_v24 main_v30
  let main_cst_11 : FVec F S_ .f32 := constant S_ .f32 0x3E800000#32
  let main_v32 : FVec F S8960x1536 .f32 := broadcastInDim S8960x1536 ![] bcast_S_S8960x1536 main_cst_11
  let main_v33 : IVec S8960x1536 1 := cmpf .ogt main_v22 main_v32
  let main_v34 : IVec S8960x1536 1 := ori main_v31 main_v33
  fn_part2 (F := F) main_v22 main_v24 main_v29 main_v34

def fn {F : FTy → Type} [FloatOps F] (main_arg0 : FVec F S6x128x1536 .bf16) (main_arg1 : FVec F S8960x1536 .bf16) (main_arg2 : FVec F S24 .f32) : IVec S768x8960 1 × IVec S8960x768 1 × IVec S1536x4480 1 × IVec S560x96 1 × IVec S1 1 × IVec S1 1 :=
  let main_v0 : FVec F S8960x1536 .f32 := (extf .f32 · bitsLt_bf16_f32) main_arg1
  let main_v1 : FVec F S8960x1536 .f32 := Host.absf main_v0
  let main_v2 : FVec F S560x16x96x16 .f32 := shapeCast S560x16x96x16 main_v1 shapeCasts_S8960x1536_S560x16x96x16
  let main_cst : FVec F S_ .f32 := constant S_ .f32 0xFF800000#32
  let main_v3 : FVec F S560x96 .f32 := (fun x v => Host.reduce FloatOps.maximumf x v reducesTo_S560x16x96x16_S560x96_d1_3 h_S_) main_v2 main_cst
  let main_cst_0 : FVec F S_ .f32 := constant S_ .f32 0xFF800000#32
  let main_v4 : FVec F S_ .f32 := (fun x v => Host.reduce FloatOps.maximumf x v reducesTo_S24_S_d0 h_S_) main_arg2 main_cst_0
  let main_cst_1 : FVec F S_ .f32 := constant S_ .f32 0x45280000#32
  let main_v5 : FVec F S_ .f32 := Host.divf main_v4 main_cst_1
  let main_cst_2 : FVec F S_ .f32 := constant S_ .f32 0x40C00000#32
  let main_v6 : FVec F S_ .f32 := mulf main_v5 main_cst_2
  let main_v7 : FVec F S560x96 .f32 := broadcastInDim S560x96 ![] bcast_S_S560x96 main_v6
  let main_v8 : FVec F S560x96 .f32 := Host.divf main_v3 main_v7
  let main_cst_3 : FVec F S_ .f32 := constant S_ .f32 0x43E00000#32
  let main_v9 : FVec F S560x96 .f32 := broadcastInDim S560x96 ![] bcast_S_S560x96 main_cst_3
  let main_v10 : FVec F S560x96 .f32 := minimumf main_v8 main_v9
  let main_v11 : FVec F S560x96 .f32 := broadcastInDim S560x96 ![] bcast_S_S560x96 main_v5
  let main_v12 : FVec F S560x96 .f32 := mulf main_v10 main_v11
  let main_v13 : FVec F S560x1x96x1 .f32 := broadcastInDim S560x1x96x1 ![0, 2] bcast_S560x96_S560x1x96x1_0_2 main_v12
  let main_v14 : FVec F S560x16x96x16 .f32 := broadcastInDim S560x16x96x16 ![0, 1, 2, 3] bcast_S560x1x96x1_S560x16x96x16_0_1_2_3 main_v13
  let main_v15 : FVec F S8960x1536 .f32 := shapeCast S8960x1536 main_v14 shapeCasts_S560x16x96x16_S8960x1536
  let main_cst_4 : FVec F S_ .f32 := constant S_ .f32 0x00000000#32
  let main_v16 : FVec F S8960x1536 .f32 := broadcastInDim S8960x1536 ![] bcast_S_S8960x1536 main_cst_4
  let main_v17 : IVec S8960x1536 1 := cmpf .ogt main_v15 main_v16
  fn_part1 (F := F) main_v0 main_v15 main_v17
-- ==== Kernel.lean ====
abbrev S6x128x1536 : Shape := ⟨3, ![6, 128, 1536]⟩
abbrev S8960x1536 : Shape := ⟨2, ![8960, 1536]⟩
abbrev S24 : Shape := ⟨1, ![24]⟩
abbrev S768x1536 : Shape := ⟨2, ![768, 1536]⟩
abbrev S768x8960 : Shape := ⟨2, ![768, 8960]⟩
abbrev S8960x768 : Shape := ⟨2, ![8960, 768]⟩
abbrev S1536x4480 : Shape := ⟨2, ![1536, 4480]⟩
abbrev S560x96 : Shape := ⟨2, ![560, 96]⟩
abbrev S1 : Shape := ⟨1, ![1]⟩
abbrev S256x1536 : Shape := ⟨2, ![256, 1536]⟩
abbrev S768x256 : Shape := ⟨2, ![768, 256]⟩
abbrev S256x768 : Shape := ⟨2, ![256, 768]⟩
abbrev S1536x128 : Shape := ⟨2, ![1536, 128]⟩
abbrev S16x1536 : Shape := ⟨2, ![16, 1536]⟩
abbrev S640x128 : Shape := ⟨2, ![640, 128]⟩
abbrev S8x128 : Shape := ⟨2, ![8, 128]⟩
abbrev S16x16x1536 : Shape := ⟨3, ![16, 16, 1536]⟩
abbrev S8x128x1 : Shape := ⟨3, ![8, 128, 1]⟩
abbrev S16x128 : Shape := ⟨2, ![16, 128]⟩
abbrev S1x128 : Shape := ⟨2, ![1, 128]⟩
abbrev S64x128 : Shape := ⟨2, ![64, 128]⟩
abbrev S8x8x128 : Shape := ⟨3, ![8, 8, 128]⟩
abbrev S32x128 : Shape := ⟨2, ![32, 128]⟩
abbrev S8x1x128 : Shape := ⟨3, ![8, 1, 128]⟩
abbrev S128x128 : Shape := ⟨2, ![128, 128]⟩
abbrev S1x1 : Shape := ⟨2, ![1, 1]⟩
abbrev S128x640 : Shape := ⟨2, ![128, 640]⟩
abbrev S96x560 : Shape := ⟨2, ![96, 560]⟩
abbrev S1x8x128 : Shape := ⟨3, ![1, 8, 128]⟩
abbrev S1x1x1 : Shape := ⟨3, ![1, 1, 1]⟩

abbrev nBuf : Space → Nat
  | .hbm => 10
  | .vmem => 16
  | .smem => 3
  | _ => 0

abbrev bufTy : (tb : Table) → Fin (tcTables nBuf tb) → BufTy
  | .hbm, ⟨0, _⟩ => ⟨S6x128x1536, .bf16⟩
  | .hbm, ⟨1, _⟩ => ⟨S8960x1536, .bf16⟩
  | .hbm, ⟨2, _⟩ => ⟨S24, .f32⟩
  | .hbm, ⟨3, _⟩ => ⟨S768x1536, .bf16⟩
  | .hbm, ⟨4, _⟩ => ⟨S768x8960, .bf16⟩
  | .hbm, ⟨5, _⟩ => ⟨S8960x768, .i8⟩
  | .hbm, ⟨6, _⟩ => ⟨S1536x4480, .i8⟩
  | .hbm, ⟨7, _⟩ => ⟨S560x96, .fp8e4m3⟩
  | .hbm, ⟨8, _⟩ => ⟨S1, .f32⟩
  | .hbm, ⟨9, _⟩ => ⟨S1, .f32⟩
  | .local _ .vmem, ⟨0, _⟩ => ⟨S768x1536, .bf16⟩
  | .local _ .vmem, ⟨1, _⟩ => ⟨S256x1536, .bf16⟩
  | .local _ .vmem, ⟨2, _⟩ => ⟨S256x1536, .bf16⟩
  | .local _ .vmem, ⟨3, _⟩ => ⟨S768x256, .bf16⟩
  | .local _ .vmem, ⟨4, _⟩ => ⟨S768x256, .bf16⟩
  | .local _ .vmem, ⟨5, _⟩ => ⟨S256x768, .i8⟩
  | .local _ .vmem, ⟨6, _⟩ => ⟨S256x768, .i8⟩
  | .local _ .vmem, ⟨7, _⟩ => ⟨S1536x128, .i8⟩
  | .local _ .vmem, ⟨8, _⟩ => ⟨S1536x128, .i8⟩
  | .local _ .vmem, ⟨9, _⟩ => ⟨S560x96, .fp8e4m3⟩
  | .local _ .vmem, ⟨10, _⟩ => ⟨S768x1536, .bf16⟩
  | .local _ .vmem, ⟨11, _⟩ => ⟨S16x1536, .f32⟩
  | .local _ .vmem, ⟨12, _⟩ => ⟨S16x1536, .f32⟩
  | .local _ .vmem, ⟨13, _⟩ => ⟨S256x1536, .bf16⟩
  | .local _ .vmem, ⟨14, _⟩ => ⟨S640x128, .f32⟩
  | .local _ .vmem, ⟨15, _⟩ => ⟨S8x128, .f32⟩
  | .local _ .smem, ⟨0, _⟩ => ⟨S24, .f32⟩
  | .local _ .smem, ⟨1, _⟩ => ⟨S1, .f32⟩
  | .local _ .smem, ⟨2, _⟩ => ⟨S1, .f32⟩
  | _, _ => ⟨S6x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![35], ![false]⟩

def k0_mult1 (i : grid0.Coords) : BitVec 32 :=
  let arg0 : BitVec 32 := BitVec.ofNat 32 (i 0).val
  let c16_i32_440 : BitVec 32 := 16#32
  let v1491 : BitVec 32 := Scalar.muli arg0 c16_i32_440
  let c0_i32_441 : BitVec 32 := 0#32
  let v1492 : BitVec 32 := Scalar.addi v1491 c0_i32_441
  v1492
def k0_off1 (i : grid0.Coords) (c0_i32_441 : BitVec 32) : Fin 2 → Nat :=
  let arg0 : BitVec 32 := BitVec.ofNat 32 (i 0).val
  let c16_i32_440 : BitVec 32 := 16#32
  let v1491 : BitVec 32 := Scalar.muli arg0 c16_i32_440
  let v1492 : BitVec 32 := Scalar.addi v1491 c0_i32_441
  let v1493 : BitVec 32 := v1492
  let v1494 : Index := Scalar.indexCast v1493
  let c0_442 : Index := 0#32
  ![v1494.toNat, 0]
def k0_mult2 (i : grid0.Coords) : BitVec 32 :=
  let arg0 : BitVec 32 := BitVec.ofNat 32 (i 0).val
  let c16_i32_900 : BitVec 32 := 16#32
  let v2927 : BitVec 32 := Scalar.muli arg0 c16_i32_900
  let c8_i32_901 : BitVec 32 := 8#32
  let v2928 : BitVec 32 := Scalar.addi v2927 c8_i32_901
  v2928
def k0_cond2 (i : grid0.Coords) : BitVec 1 :=
  let arg0 : BitVec 32 := BitVec.ofNat 32 (i 0).val
  let c34_i32 : BitVec 32 := 34#32
  let v10491 : BitVec 1 := Scalar.cmpi .eq arg0 c34_i32
  let v10492 : BitVec 32 := Scalar.extui v10491
  let c0_i32_4480 : BitVec 32 := 0#32
  let v10493 : BitVec 1 := Scalar.cmpi .ne v10492 c0_i32_4480
  v10493

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S560x96 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S6x128x1536 : Shape := ⟨3, ![6, 128, 1536]⟩
abbrev S8960x1536 : Shape := ⟨2, ![8960, 1536]⟩
abbrev S24 : Shape := ⟨1, ![24]⟩
abbrev S560x16x96x16 : Shape := ⟨4, ![560, 16, 96, 16]⟩
abbrev S_ : Shape := ⟨0, ![]⟩
abbrev S560x96 : Shape := ⟨2, ![560, 96]⟩
abbrev S1 : Shape := ⟨1, ![1]⟩
abbrev S560x1x96x1 : Shape := ⟨4, ![560, 1, 96, 1]⟩
abbrev S8960x768 : Shape := ⟨2, ![8960, 768]⟩
abbrev S4480x1536 : Shape := ⟨2, ![4480, 1536]⟩
abbrev S1536x4480 : Shape := ⟨2, ![1536, 4480]⟩
abbrev S768x1536 : Shape := ⟨2, ![768, 1536]⟩
abbrev S768x8960 : Shape := ⟨2, ![768, 8960]⟩

abbrev nBuf : Space → Nat
  | .hbm => 131
  | .vmem => 3
  | .smem => 0
  | _ => 0

abbrev hbmTy0_0 (i : Nat) : BufTy := match i % 128 with
  | 0 => ⟨S6x128x1536, .bf16⟩
  | 1 => ⟨S8960x1536, .bf16⟩
  | 2 => ⟨S24, .f32⟩
  | 3 => ⟨S8960x1536, .f32⟩
  | 4 => ⟨S8960x1536, .f32⟩
  | 5 => ⟨S560x16x96x16, .f32⟩
  | 6 => ⟨S_, .f32⟩
  | 7 => ⟨S560x96, .f32⟩
  | 8 => ⟨S_, .f32⟩
  | 9 => ⟨S_, .f32⟩
  | 10 => ⟨S1, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S560x96, .f32⟩
  | 18 => ⟨S560x96, .f32⟩
  | 19 => ⟨S_, .f32⟩
  | 20 => ⟨S560x96, .f32⟩
  | 21 => ⟨S560x96, .f32⟩
  | 22 => ⟨S560x96, .fp8e4m3⟩
  | 23 => ⟨S560x96, .f32⟩
  | 24 => ⟨S560x96, .bf16⟩
  | 25 => ⟨S560x96, .f32⟩
  | 26 => ⟨S560x96, .f32⟩
  | 27 => ⟨S560x1x96x1, .f32⟩
  | 28 => ⟨S560x16x96x16, .f32⟩
  | 29 => ⟨S8960x1536, .f32⟩
  | 30 => ⟨S_, .f32⟩
  | 31 => ⟨S8960x1536, .f32⟩
  | 32 => ⟨S8960x1536, .i1⟩
  | 33 => ⟨S_, .f32⟩
  | 34 => ⟨S_, .f32⟩
  | 35 => ⟨S8960x1536, .f32⟩
  | 36 => ⟨S8960x1536, .f32⟩
  | 37 => ⟨S8960x1536, .f32⟩
  | 38 => ⟨S_, .f32⟩
  | 39 => ⟨S_, .f32⟩
  | 40 => ⟨S8960x1536, .f32⟩
  | 41 => ⟨S8960x1536, .f32⟩
  | 42 => ⟨S_, .f32⟩
  | 43 => ⟨S_, .f32⟩
  | 44 => ⟨S_, .f32⟩
  | 45 => ⟨S8960x1536, .f32⟩
  | 46 => ⟨S8960x1536, .f32⟩
  | 47 => ⟨S_, .f32⟩
  | 48 => ⟨S8960x1536, .f32⟩
  | 49 => ⟨S8960x1536, .f32⟩
  | 50 => ⟨S8960x1536, .f32⟩
  | 51 => ⟨S_, .f32⟩
  | 52 => ⟨S8960x1536, .f32⟩
  | 53 => ⟨S8960x1536, .i1⟩
  | 54 => ⟨S_, .f32⟩
  | 55 => ⟨S8960x1536, .f32⟩
  | 56 => ⟨S8960x1536, .f32⟩
  | 57 => ⟨S8960x1536, .f32⟩
  | 58 => ⟨S_, .f32⟩
  | 59 => ⟨S8960x1536, .f32⟩
  | 60 => ⟨S8960x1536, .f32⟩
  | 61 => ⟨S_, .f32⟩
  | 62 => ⟨S8960x1536, .f32⟩
  | 63 => ⟨S8960x1536, .i1⟩
  | 64 => ⟨S8960x1536, .f32⟩
  | 65 => ⟨S_, .f32⟩
  | 66 => ⟨S8960x1536, .f32⟩
  | 67 => ⟨S8960x1536, .f32⟩
  | 68 => ⟨S8960x1536, .f32⟩
  | 69 => ⟨S_, .f32⟩
  | 70 => ⟨S8960x1536, .f32⟩
  | 71 => ⟨S8960x1536, .f32⟩
  | 72 => ⟨S8960x1536, .f32⟩
  | 73 => ⟨S8960x1536, .f32⟩
  | 74 => ⟨S_, .f32⟩
  | 75 => ⟨S8960x1536, .f32⟩
  | 76 => ⟨S8960x1536, .i1⟩
  | 77 => ⟨S_, .f32⟩
  | 78 => ⟨S8960x1536, .f32⟩
  | 79 => ⟨S8960x1536, .f32⟩
  | 80 => ⟨S_, .f32⟩
  | 81 => ⟨S8960x1536, .f32⟩
  | 82 => ⟨S8960x1536, .i1⟩
  | 83 => ⟨S_, .f32⟩
  | 84 => ⟨S8960x1536, .f32⟩
  | 85 => ⟨S8960x1536, .f32⟩
  | 86 => ⟨S_, .f32⟩
  | 87 => ⟨S8960x1536, .f32⟩
  | 88 => ⟨S8960x1536, .f32⟩
  | 89 => ⟨S_, .f32⟩
  | 90 => ⟨S8960x1536, .f32⟩
  | 91 => ⟨S8960x1536, .f32⟩
  | 92 => ⟨S8960x1536, .f32⟩
  | 93 => ⟨S8960x1536, .f32⟩
  | 94 => ⟨S8960x1536, .i32⟩
  | 95 => ⟨S_, .f32⟩
  | 96 => ⟨S8960x1536, .f32⟩
  | 97 => ⟨S8960x1536, .i1⟩
  | 98 => ⟨S8960x1536, .i32⟩
  | 99 => ⟨S_, .i32⟩
  | 100 => ⟨S8960x1536, .i32⟩
  | 101 => ⟨S8960x1536, .i32⟩
  | 102 => ⟨S8960x1536, .i32⟩
  | 103 => ⟨S8960x768, .i32⟩
  | 104 => ⟨S8960x768, .i32⟩
  | 105 => ⟨S_, .i32⟩
  | 106 => ⟨S8960x768, .i32⟩
  | 107 => ⟨S8960x768, .i32⟩
  | 108 => ⟨S8960x768, .i32⟩
  | 109 => ⟨S8960x768, .i8⟩
  | 110 => ⟨S4480x1536, .i32⟩
  | 111 => ⟨S4480x1536, .i32⟩
  | 112 => ⟨S_, .i32⟩
  | 113 => ⟨S4480x1536, .i32⟩
  | 114 => ⟨S4480x1536, .i32⟩
  | 115 => ⟨S4480x1536, .i32⟩
  | 116 => ⟨S1536x4480, .i32⟩
  | 117 => ⟨S1536x4480, .i8⟩
  | 118 => ⟨S560x1x96x1, .bf16⟩
  | 119 => ⟨S560x16x96x16, .bf16⟩
  | 120 => ⟨S8960x1536, .bf16⟩
  | 121 => ⟨S8960x1536, .f32⟩
  | 122 => ⟨S8960x1536, .f32⟩
  | 123 => ⟨S8960x1536, .bf16⟩
  | 124 => ⟨S8960x1536, .bf16⟩
  | 125 => ⟨S768x1536, .bf16⟩
  | 126 => ⟨S768x8960, .f32⟩
  | 127 => ⟨S768x8960, .f32⟩
  | _ => ⟨S6x128x1536, .bf16⟩

abbrev hbmTy0_1 (i : Nat) : BufTy := match i % 128 with
  | 0 => ⟨S768x8960, .f32⟩
  | 1 => ⟨S768x8960, .bf16⟩
  | 2 => ⟨S1, .f32⟩
  | _ => ⟨S6x128x1536, .bf16⟩

abbrev hbmTy (i : Nat) : BufTy := match i / 128 with
  | 0 => hbmTy0_0 i
  | 1 => hbmTy0_1 i
  | _ => ⟨S6x128x1536, .bf16⟩

abbrev bufTy : (tb : Table) → Fin (tcTables nBuf tb) → BufTy
  | .hbm, ⟨i, _⟩ => hbmTy i
  | .local _ .vmem, ⟨0, _⟩ => ⟨S560x96, .fp8e4m3⟩
  | .local _ .vmem, ⟨1, _⟩ => ⟨S560x96, .f32⟩
  | .local _ .vmem, ⟨2, _⟩ => ⟨S560x96, .bf16⟩
  | _, _ => ⟨S6x128x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v25 : Ref sig .tc := ⟨.hbm, 49, rfl⟩
abbrev main_v26 : Ref sig .tc := ⟨.hbm, 50, rfl⟩
abbrev main_cst_10 : Ref sig .tc := ⟨.hbm, 51, rfl⟩
abbrev main_v27 : Ref sig .tc := ⟨.hbm, 52, rfl⟩
abbrev main_v28 : Ref sig .tc := ⟨.hbm, 53, rfl⟩
abbrev main_cst_11 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_12 : Ref sig .tc := ⟨.hbm, 58, rfl⟩
abbrev main_v32 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_14 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_15 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_16 : Ref sig .tc := ⟨.hbm, 74, rfl⟩
abbrev main_v44 : Ref sig .tc := ⟨.hbm, 75, rfl⟩
abbrev main_v45 : Ref sig .tc := ⟨.hbm, 76, rfl⟩
abbrev main_cst_17 : Ref sig .tc := ⟨.hbm, 77, rfl⟩
abbrev main_v46 : Ref sig .tc := ⟨.hbm, 78, rfl⟩
abbrev main_v47 : Ref sig .tc := ⟨.hbm, 79, rfl⟩
abbrev main_cst_18 : Ref sig .tc := ⟨.hbm, 80, rfl⟩
abbrev main_v48 : Ref sig .tc := ⟨.hbm, 81, rfl⟩
abbrev main_v49 : Ref sig .tc := ⟨.hbm, 82, rfl⟩
abbrev main_cst_19 : Ref sig .tc := ⟨.hbm, 83, rfl⟩
abbrev main_v50 : Ref sig .tc := ⟨.hbm, 84, rfl⟩
abbrev main_v51 : Ref sig .tc := ⟨.hbm, 85, rfl⟩
abbrev main_cst_20 : Ref sig .tc := ⟨.hbm, 86, rfl⟩
abbrev main_v52 : Ref sig .tc := ⟨.hbm, 87, rfl⟩
abbrev main_v53 : Ref sig .tc := ⟨.hbm, 88, rfl⟩
abbrev main_cst_21 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_22 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_23 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_24 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S560x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S560x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S560x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Runs.lean ====
/- What the runs of the kernel's body share: the body's branch conditions over the grid points, where the windows are idle,
   the staging and scratch memrefs. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, e0]
    word_cmp
   : ∀ t : Fin grid0.N, cond0_0 (grid0.coords t) ↔ t.val % 35 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 35 = 34 :=
  (fun t => by
    have ht : t.val < 35 := Nat.lt_of_lt_of_eq t.isLt N_0
    have e0 : (grid0.coords t 0).val = t.val / 1 % 35 := Pipeline.Grid.coords_val t 0 (by decide) rfl
    simp only [cond0_1, k0_cond2, e0]
    word_cmp
   : ∀ t : Fin grid0.N, cond0_1 (grid0.coords t) ↔ t.val % 35 = 34)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an output stored at every point, under no condition). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 3, through which its contents are stated (`View.read_writes_of_cover`: the
    choice does not matter). -/
abbrev VO0_3 : View sig .tc .vmem S768x256 .bf16 := (Memref.whole cc0_stg3_0 : Memref sig .tc .vmem S768x256 .bf16).view
/-- One staging buffer of output window 4, through which its contents are stated (`View.read_writes_of_cover`: the
    choice does not matter). -/
abbrev VO0_4 : View sig .tc .vmem S256x768 .i8 := (Memref.whole cc0_stg4_0 : Memref sig .tc .vmem S256x768 .i8).view
/-- One staging buffer of output window 5, through which its contents are stated (`View.read_writes_of_cover`: the
    choice does not matter). -/
abbrev VO0_5 : View sig .tc .vmem S1536x128 .i8 := (Memref.whole cc0_stg5_0 : Memref sig .tc .vmem S1536x128 .i8).view
/-- One staging buffer of output window 6, through which its contents are stated (`View.read_writes_of_cover`: the
    choice does not matter). -/
abbrev VO0_6 : View sig .tc .vmem S560x96 .fp8e4m3 := (Memref.whole cc0_stg6_0 : Memref sig .tc .vmem S560x96 .fp8e4m3).view
/-- One staging buffer of output window 7, through which its contents are stated (`View.read_writes_of_cover`: the
    choice does not matter). -/
abbrev VO0_7 : View sig .tc .smem S1 .f32 := (Memref.whole cc0_stg7_0 : Memref sig .tc .smem S1 .f32).view
/-- One staging buffer of output window 8, through which its contents are stated (`View.read_writes_of_cover`: the
    choice does not matter). -/
abbrev VO0_8 : View sig .tc .smem S1 .f32 := (Memref.whole cc0_stg8_0 : Memref sig .tc .smem S1 .f32).view
/-- Each window's current staging memref at point `t`, spelled as the pipeline passes it (`bodyAt0`), and its wholeness. -/
abbrev ms0_0 (t : Fin cfg0.N) : Memref sig .tc .smem S24 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1536 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x768 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S560x96 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S768x1536 .bf16 := Memref.whole cc0_scratch0
abbrev scM0_1 : Memref sig .tc .vmem S16x1536 .f32 := Memref.whole cc0_scratch1
abbrev scM0_2 : Memref sig .tc .vmem S16x1536 .f32 := Memref.whole cc0_scratch2
abbrev scM0_3 : Memref sig .tc .vmem S256x1536 .bf16 := Memref.whole cc0_scratch3
abbrev scM0_4 : Memref sig .tc .vmem S640x128 .f32 := Memref.whole cc0_scratch4
abbrev scM0_5 : Memref sig .tc .vmem S8x128 .f32 := Memref.whole cc0_scratch5
/-- The scratch `arg10` the kernel carries between points, as a view: what it holds is stated through it. -/
abbrev VS0_0 : View sig .tc .vmem S768x1536 .bf16 := scM0_0.view
/-- The scratch `arg14` the kernel carries between points, as a view: what it holds is stated through it. -/
abbrev VS0_4 : View sig .tc .vmem S640x128 .f32 := scM0_4.view
/-- The scratch `arg15` the kernel carries between points, as a view: what it holds is stated through it. -/
abbrev VS0_5 : View sig .tc .vmem S8x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Units.lean ====
/- The vector units that the kernel's unrolled body repeats, and the lists of pieces its stores leave, in terms of them. -/
module

public import proofs.«01_k».proof.Proof.Runs

@[expose] public section

set_option maxRecDepth 16384

noncomputable section

namespace Cert.KernelIdeal.U

open Idealize.ShloMosaic Cert.KernelIdeal.Gen

variable {F : FTy → Type} [FloatOps F]

/-! ## Lanes -/

/-- The lane number of every element. -/
def lane : IVec S8x128 32 := iota .tc S8x128 32 [1] iota_S8x128_d1_w32

/-- A gather's indices, a negative one counted from the end. -/
def gix (ix : IVec S8x128 32) : IVec S8x128 32 :=
  shapeCast S8x128 (shapeCast S8x128x1 (select (cmpi .slt ix (broadcast S8x128 0#32)) (addi ix (broadcast S8x128 128#32)) ix)
    shapeCasts_S8x128_S8x128x1) shapeCasts_S8x128x1_S8x128

/-- One step of the block maximum: the maximum with the lane whose number differs in one bit. -/
def xg (s : BitVec 32) (m : FVec F S8x128 .f32) : FVec F S8x128 .f32 :=
  maximumf m (dynamicGather 1 m (gix (xori lane (broadcast S8x128 s))))

/-- The maximum over each block of sixteen lanes. -/
def unitM (m : FVec F S8x128 .f32) : FVec F S8x128 .f32 := xg 8#32 (xg 4#32 (xg 2#32 (xg 1#32 m)))

/-- The block scales. -/
def unitS (st6 m : FVec F S8x128 .f32) : FVec F S8x128 .f32 :=
  extf .f32 (truncf .fp8e4m3 (minimumf (divf (unitM m) st6) (broadcast S8x128 (Scalar.ofBits .f32 0x43E00000#32))) bitsLt_fp8e4m3_f32) bitsLt_fp8e4m3_f32

/-- The dequantisation scales. -/
def unitD (st st6 m : FVec F S8x128 .f32) : FVec F S8x128 .f32 := mulf (unitS st6 m) st

/-- Where they are positive. -/
def unitP (st st6 m : FVec F S8x128 .f32) : IVec S8x128 1 := cmpf .ogt (unitD st st6 m) (broadcast S8x128 (Scalar.ofBits .f32 0x00000000#32))

/-- Their reciprocals, zero where they are not positive. -/
def unitR (st st6 m : FVec F S8x128 .f32) : FVec F S8x128 .f32 :=
  select (unitP st st6 m)
    (divf (broadcast S8x128 (Scalar.ofBits .f32 0x3F800000#32))
      (select (unitP st st6 m) (unitD st st6 m) (broadcast S8x128 (Scalar.ofBits .f32 0x3F800000#32))))
    (broadcast S8x128 (Scalar.ofBits .f32 0x00000000#32))

/-- The lane number divided by eight. -/
def gd : IVec S8x128 32 :=
  select
    (andi
      (cmpi .ne (subi (extui 32 (cmpi .sgt lane (broadcast S8x128 0#32)) natLt_1_32) (extui 32 (cmpi .slt lane (broadcast S8x128 0#32)) natLt_1_32))
        (broadcast S8x128 (Scalar.subi (Scalar.extui (Scalar.cmpi .sgt 8#32 0#32)) (Scalar.extui (Scalar.cmpi .slt 8#32 0#32)))))
      (cmpi .ne (remsi lane (broadcast S8x128 8#32)) (broadcast S8x128 0#32)))
    (subi (divsi lane (broadcast S8x128 8#32)) (broadcast S8x128 1#32))
    (divsi lane (broadcast S8x128 8#32))

/-- The divisor eight as the remainder takes it. -/
def eight : BitVec 32 := Scalar.select (Scalar.cmpi .eq 8#32 0#32) 1#32 8#32

/-- The lane number modulo eight. -/
def gm : IVec S8x128 32 :=
  select
    (andi (xori (cmpi .slt (remsi lane (broadcast S8x128 eight)) (broadcast S8x128 0#32))
        (broadcastTo S8x128 (broadcast S8x128 (Scalar.cmpi .slt eight 0#32)) broadcasts_S8x128_S8x128))
      (cmpi .ne (remsi lane (broadcast S8x128 eight)) (broadcast S8x128 0#32)))
    (addi (remsi lane (broadcast S8x128 eight)) (broadcast S8x128 eight))
    (remsi lane (broadcast S8x128 eight))

/-- One step of the compaction of the block scales: eight lanes take one tile's. -/
def comp (t : BitVec 32) (sb c : FVec F S8x128 .f32) : FVec F S8x128 .f32 :=
  select (cmpi .eq gd (broadcast S8x128 t)) (dynamicGather 1 sb (gix (muli gm (broadcast S8x128 16#32)))) c

/-- The tiles of a row of tiles, in order. -/
def ts : List (Fin 12) := [0, 1, 2, 3, 4, 5, 6, 7, 8, 9, 10, 11]

/-- The compacted block scales of one group of eight block rows, whose tiles are `m`. -/
def compG (st6 : FVec F S8x128 .f32) (m : Fin 12 → FVec F S8x128 .f32) : FVec F S8x128 .f32 :=
  ts.foldl (fun c t => comp (BitVec.ofNat 32 t.val) (unitS st6 (m t)) c) (broadcast S8x128 (Scalar.ofBits .f32 0x00000000#32))

/-- The running maximum after the tiles of both groups. -/
def runM (r : FVec F S8x128 .f32) (m : Fin 2 → Fin 12 → FVec F S8x128 .f32) : FVec F S8x128 .f32 :=
  ts.foldl (fun r t => maximumf r (unitM (m 1 t))) (ts.foldl (fun r t => maximumf r (unitM (m 0 t))) r)

/-- The maximum of the history. -/
def histMax (h : Fin 24 → F .f32) : F .f32 :=
  ([1, 2, 3, 4, 5, 6, 7, 8, 9, 10, 11, 12, 13, 14, 15, 16, 17, 18, 19, 20, 21, 22, 23] : List (Fin 24)).foldl
    (fun a k => Scalar.maximumf a (h k)) (h 0)

/-- The tensor scale. -/
def stU (h : F .f32) : FVec F S8x128 .f32 := divf (broadcast S8x128 h) (broadcast S8x128 (Scalar.ofBits .f32 0x45280000#32))

/-- Six times the tensor scale. -/
def st6U (h : F .f32) : FVec F S8x128 .f32 := mulf (stU h) (broadcast S8x128 (Scalar.ofBits .f32 0x40C00000#32))

/-! ## Codes -/

/-- Sixteen rows' quotients, nudged and clipped. -/
def clipU (w : Vec F S16x128 .bf16) (r : Vec F S1x128 .f32) : FVec F S16x128 .f32 :=
  minimumf (broadcast S16x128 (Scalar.ofBits .f32 0x40C00000#32))
    (maximumf (broadcast S16x128 (Scalar.ofBits .f32 0xC0C00000#32))
      (addf (mulf (extf .f32 w bitsLt_bf16_f32) (broadcastTo S16x128 (shapeCast S1x128 r shapeCasts_S1x128_S1x128) broadcasts_S1x128_S16x128))
        (broadcast S16x128 (Scalar.ofBits .f32 0x00800000#32))))

/-- A row repeated sixteen times. -/
def rowsU (r : Vec F S1x128 .f32) : FVec F S16x128 .f32 :=
  broadcastTo S16x128 (shapeCast S1x128 r shapeCasts_S1x128_S1x128) broadcasts_S1x128_S16x128

/-- Four blocks of rows below each other. -/
def cat4 (a b c d : FVec F S16x128 .f32) : FVec F S64x128 .f32 :=
  concatenate S64x128 0 [⟨S16x128, a⟩, ⟨S16x128, b⟩, ⟨S16x128, c⟩, ⟨S16x128, d⟩] concatenates_S16x128_S16x128_S16x128_S16x128_S64x128_d0

/-- One level's test. -/
def gtU (a : FVec F S64x128 .f32) (c : BitVec 32) : IVec S64x128 1 := cmpf .ogt a (broadcast S64x128 (Scalar.ofBits .f32 c))
/-- One level's test, the boundary included. -/
def geU (a : FVec F S64x128 .f32) (c : BitVec 32) : IVec S64x128 1 := cmpf .oge a (broadcast S64x128 (Scalar.ofBits .f32 c))

/-- The level of each magnitude. -/
def levU (a : FVec F S64x128 .f32) : IVec S64x128 32 :=
  select (gtU a 0x40A00000#32) (broadcast S64x128 7#32)
    (select (geU a 0x40600000#32) (broadcast S64x128 6#32)
      (select (gtU a 0x40200000#32) (broadcast S64x128 5#32)
        (select (geU a 0x3FE00000#32) (broadcast S64x128 4#32)
          (select (gtU a 0x3FA00000#32) (broadcast S64x128 3#32)
            (select (geU a 0x3F400000#32) (broadcast S64x128 2#32)
              (select (gtU a 0x3E800000#32) (broadcast S64x128 1#32) (broadcast S64x128 0#32)))))))

/-- The value of each magnitude's level. -/
def magU (a : FVec F S64x128 .f32) : FVec F S64x128 .f32 :=
  select (gtU a 0x40A00000#32) (broadcast S64x128 (Scalar.ofBits .f32 0x40C00000#32))
    (select (geU a 0x40600000#32) (broadcast S64x128 (Scalar.ofBits .f32 0x40800000#32))
      (select (gtU a 0x40200000#32) (broadcast S64x128 (Scalar.ofBits .f32 0x40400000#32))
        (select (geU a 0x3FE00000#32) (broadcast S64x128 (Scalar.ofBits .f32 0x40000000#32))
          (select (gtU a 0x3FA00000#32) (broadcast S64x128 (Scalar.ofBits .f32 0x3FC00000#32))
            (select (geU a 0x3F400000#32) (broadcast S64x128 (Scalar.ofBits .f32 0x3F800000#32))
              (select (gtU a 0x3E800000#32) (broadcast S64x128 (Scalar.ofBits .f32 0x3F000000#32)) (broadcast S64x128 (Scalar.ofBits .f32 0x00000000#32))))))))

/-- Where the quotient is negative. -/
def negU (v : FVec F S64x128 .f32) : IVec S64x128 1 := cmpf .olt v (broadcast S64x128 (Scalar.ofBits .f32 0x00000000#32))

/-- The code of each quotient. -/
def codeU (v : FVec F S64x128 .f32) : IVec S64x128 32 :=
  select (negU v) (ori (levU (absf v)) (broadcast S64x128 8#32)) (levU (absf v))

/-- The value of each code. -/
def valU (v : FVec F S64x128 .f32) : FVec F S64x128 .f32 :=
  select (negU v) (subf (broadcast S64x128 (Scalar.ofBits .f32 0x00000000#32)) (magU (absf v))) (magU (absf v))

/-- Four times the position of each code in its word. -/
def shU : IVec S8x8x128 32 := muli (broadcast S8x8x128 4#32) (iota .tc S8x8x128 32 [1] iota_S8x8x128_d1_w32)

/-- Eight rows of codes in a word. -/
def q32U (v : FVec F S64x128 .f32) : IVec S8x128 32 :=
  multiReductionI .add [1] S8x128 (shli (shapeCast S8x8x128 (codeU v) shapeCasts_S64x128_S8x8x128) shU) 0#32 reduces_S8x8x128_S8x128 rfl

/-- The dequantised weights of sixty-four rows. -/
def deqU (v s : FVec F S64x128 .f32) : FVec F S64x128 .bf16 :=
  shapeCast S64x128 (mulf (truncf .bf16 (valU v) bitsLt_bf16_f32) (truncf .bf16 s bitsLt_bf16_f32)) shapeCasts_S64x128_S64x128

/-- The words' bytes. -/
def bytesU (q : IVec S8x128 32) : IVec S32x128 8 := bitcast S32x128 8 q bitcasts_S8x128_w32_S32x128_w8

/-- One tile of the codes paired along the rows, transposed. -/
def cnU (a b c d : IVec S8x128 32) : IVec S128x128 8 :=
  transpose S128x128 [1, 0] (concatenate S128x128 0 [⟨S32x128, bytesU a⟩, ⟨S32x128, bytesU b⟩, ⟨S32x128, bytesU c⟩, ⟨S32x128, bytesU d⟩]
    concatenates_S32x128_S32x128_S32x128_S32x128_S128x128_d0) transposes_S128x128_p1_0_S128x128

/-- The lower half of the lanes. -/
def lowU : IVec S8x128 1 := cmpi .slt lane (broadcast S8x128 64#32)
/-- The even lanes, then the odd ones. -/
def foldU : IVec S8x128 32 :=
  select lowU (muli (broadcast S8x128 2#32) lane) (subi (muli (broadcast S8x128 2#32) lane) (broadcast S8x128 127#32))
/-- The odd lanes, then the even ones. -/
def foldxU : IVec S8x128 32 :=
  select lowU (addi (muli (broadcast S8x128 2#32) lane) (broadcast S8x128 1#32)) (subi (muli (broadcast S8x128 2#32) lane) (broadcast S8x128 128#32))

/-- The words' codes as sign-extended bytes, one row each, four bytes to a word. -/
def spreadU (q : IVec S8x128 32) : IVec S16x128 32 :=
  bitcast S16x128 32
    (trunci 8
      (shapeCast S64x128
        (shrsi
          (shli (broadcastTo S8x8x128 (shapeCast S8x1x128 (shapeCast S8x1x128 q shapeCasts_S8x128_S8x1x128) shapeCasts_S8x1x128_S8x1x128) broadcasts_S8x1x128_S8x8x128)
            (subi (broadcast S8x8x128 28#32) shU))
          (broadcast S8x8x128 28#32))
        shapeCasts_S8x8x128_S64x128)
      natLt_8_32)
    bitcasts_S64x128_w8_S16x128_w32

/-- The words of the even columns of two tiles. -/
def evU (qa qb : IVec S8x128 32) : IVec S8x128 32 := select lowU (dynamicGather 1 qa (gix foldU)) (dynamicGather 1 qb (gix foldxU))
/-- The words of the odd columns of two tiles. -/
def odU (qa qb : IVec S8x128 32) : IVec S8x128 32 :=
  dynamicRotate 1 64#32 none (select lowU (dynamicGather 1 qb (gix foldxU)) (dynamicGather 1 qa (gix foldU))) rotates_S8x128_d1

/-- One tile of the codes paired along the columns. -/
def ckU (qa qb : IVec S8x128 32) : IVec S64x128 8 :=
  bitcast S64x128 8
    (ori (andi (spreadU (evU qa qb)) (broadcast S16x128 252645135#32))
      (andi (shli (spreadU (odU qa qb)) (broadcast S16x128 4#32)) (broadcast S16x128 4042322160#32)))
    bitcasts_S16x128_w32_S64x128_w8

/-- The block of the product, scaled. -/
def yU (st : FVec F S8x128 .f32) (x : Vec F S768x1536 .bf16) (w : Vec F S256x1536 .bf16) : FVec F S768x256 .bf16 := k0_pay1585 st x w

/-! ## Pieces -/

theorem hR : ∀ (g : Fin 2) (t : Fin 12), ∀ a, (![8 * g.val, 128 * t.val] : Fin 2 → ℕ) a + S8x128.size a ≤ S16x1536.size a := by decide +kernel
theorem hS : ∀ (g : Fin 2) (t : Fin 12), S16x1536.Slices ![8 * g.val, 128 * t.val] S8x128 := by decide +kernel
theorem hD : ∀ (g : Fin 4) (t : Fin 12), ∀ a, (![64 * g.val, 128 * t.val] : Fin 2 → ℕ) a + S64x128.size a ≤ S256x1536.size a := by decide +kernel
theorem hCk : ∀ (g : Fin 4) (t : Fin 6), ∀ a, (![64 * g.val, 128 * t.val] : Fin 2 → ℕ) a + S64x128.size a ≤ S256x768.size a := by decide +kernel
theorem hCn : ∀ (t : Fin 12), ∀ a, (![128 * t.val, 0] : Fin 2 → ℕ) a + S128x128.size a ≤ S1536x128.size a := by decide +kernel
theorem hW : ∀ (r : Fin 16) (t : Fin 12), ∀ a, (![16 * r.val, 128 * t.val] : Fin 2 → ℕ) a + S16x128.size a ≤ S256x1536.size a := by decide +kernel
theorem hL : ∀ (r : Fin 16) (t : Fin 12), ∀ a, (![r.val, 128 * t.val] : Fin 2 → ℕ) a + S1x128.size a ≤ S16x1536.size a := by decide +kernel
theorem hH : ∀ (k : Fin 24), ∀ a, (![k.val] : Fin 1 → ℕ) a + S1.size a ≤ S24.size a := by decide +kernel

/-- A tile of the row maxima. -/
def tile (A : FVec F S16x1536 .f32) (g : Fin 2) (t : Fin 12) : FVec F S8x128 .f32 :=
  extractStridedSlice S8x128 ![8 * g.val, 128 * t.val] A (hS g t)

/-- The tiles, the last one first. -/
def rl : List (Fin 2 × Fin 12) :=
  [(1, 11), (1, 10), (1, 9), (1, 8), (1, 7), (1, 6), (1, 5), (1, 4), (1, 3), (1, 2), (1, 1), (1, 0),
   (0, 11), (0, 10), (0, 9), (0, 8), (0, 7), (0, 6), (0, 5), (0, 4), (0, 3), (0, 2), (0, 1), (0, 0)]

/-- The reciprocals' pieces. -/
def piecesR (st st6 : FVec F S8x128 .f32) (A : FVec F S16x1536 .f32) : List (View.Piece (Elt F) S16x1536 .f32) :=
  rl.map fun p => ⟨Rect.unit ![8 * p.1.val, 128 * p.2.val] S8x128.size (hR p.1 p.2),
    shapeCast S8x128 (unitR st st6 (tile A p.1 p.2)) shapeCasts_S8x128_S8x128⟩

/-- The block scales' pieces. -/
def piecesS (st6 : FVec F S8x128 .f32) (A : FVec F S16x1536 .f32) : List (View.Piece (Elt F) S16x1536 .f32) :=
  rl.map fun p => ⟨Rect.unit ![8 * p.1.val, 128 * p.2.val] S8x128.size (hR p.1 p.2),
    shapeCast S8x128 (unitS st6 (tile A p.1 p.2)) shapeCasts_S8x128_S8x128⟩

/-- A block row of a group of sixty-four rows. -/
def row (g b : Fin 4) : Fin 16 := ⟨4 * g.val + b.val, by omega⟩

/-- The quotients of sixty-four rows of a tile. -/
def qv (W : Fin 16 → Fin 12 → Vec F S16x128 .bf16) (R : Fin 16 → Fin 12 → Vec F S1x128 .f32) (g : Fin 4) (t : Fin 12) : FVec F S64x128 .f32 :=
  cat4 (clipU (W (row g 0) t) (R (row g 0) t)) (clipU (W (row g 1) t) (R (row g 1) t))
    (clipU (W (row g 2) t) (R (row g 2) t)) (clipU (W (row g 3) t) (R (row g 3) t))

/-- The scales of sixty-four rows of a tile. -/
def sv (S : Fin 16 → Fin 12 → Vec F S1x128 .f32) (g : Fin 4) (t : Fin 12) : FVec F S64x128 .f32 :=
  cat4 (rowsU (S (row g 0) t)) (rowsU (S (row g 1) t)) (rowsU (S (row g 2) t)) (rowsU (S (row g 3) t))

/-- The groups of sixty-four rows of a pair of tiles, the last one first. -/
def dl1 (t u : Fin 12) : List (Fin 4 × Fin 12) := [(3, u), (3, t), (2, u), (2, t), (1, u), (1, t), (0, u), (0, t)]
/-- The groups of sixty-four rows of every tile, the last one first. -/
def dl : List (Fin 4 × Fin 12) := dl1 10 11 ++ (dl1 8 9 ++ (dl1 6 7 ++ (dl1 4 5 ++ (dl1 2 3 ++ dl1 0 1))))

/-- The dequantised weights' pieces. -/
def piecesD (v s : Fin 4 → Fin 12 → FVec F S64x128 .f32) : List (View.Piece (Elt F) S256x1536 .bf16) :=
  dl.map fun p => ⟨Rect.unit ![64 * p.1.val, 128 * p.2.val] S64x128.size (hD p.1 p.2), deqU (v p.1 p.2) (s p.1 p.2)⟩

/-- The groups of sixty-four rows of a pair of tiles. -/
def kl1 (t : Fin 6) : List (Fin 4 × Fin 6) := [(3, t), (2, t), (1, t), (0, t)]
/-- The groups of sixty-four rows of every pair of tiles, the last one first. -/
def kl : List (Fin 4 × Fin 6) := kl1 5 ++ (kl1 4 ++ (kl1 3 ++ (kl1 2 ++ (kl1 1 ++ kl1 0))))

/-- The pieces of the codes paired along the columns. -/
def piecesK (v : Fin 4 → Fin 12 → FVec F S64x128 .f32) : List (View.Piece (Elt F) S256x768 .i8) :=
  kl.map fun p => ⟨Rect.unit ![64 * p.1.val, 128 * p.2.val] S64x128.size (hCk p.1 p.2),
    ckU (q32U (v p.1 ⟨2 * p.2.val, by omega⟩)) (q32U (v p.1 ⟨2 * p.2.val + 1, by omega⟩))⟩

/-- The pieces of the codes paired along the rows. -/
def piecesN (v : Fin 4 → Fin 12 → FVec F S64x128 .f32) : List (View.Piece (Elt F) S1536x128 .i8) :=
  ([11, 10, 9, 8, 7, 6, 5, 4, 3, 2, 1, 0] : List (Fin 12)).map fun t => ⟨Rect.unit ![128 * t.val, 0] S128x128.size (hCn t),
    cnU (q32U (v 0 t)) (q32U (v 1 t)) (q32U (v 2 t)) (q32U (v 3 t))⟩

/-- The compacted scales' pieces. -/
def piecesC (i : grid0.Coords) (st6 : FVec F S8x128 .f32) (A : FVec F S16x1536 .f32)
    (h0 : ∀ a, k0_off1 i 0#32 a + S8x128.size a ≤ S640x128.size a) (h1 : ∀ a, k0_off1 i 8#32 a + S8x128.size a ≤ S640x128.size a) :
    List (View.Piece (Elt F) S640x128 .f32) :=
  [⟨Rect.unit (k0_off1 i 8#32) S8x128.size h1, shapeCast S8x128 (compG st6 (tile A 1)) shapeCasts_S8x128_S8x128⟩,
   ⟨Rect.unit (k0_off1 i 0#32) S8x128.size h0, shapeCast S8x128 (compG st6 (tile A 0)) shapeCasts_S8x128_S8x128⟩]

/-- The history as the body loads it. -/
def ldH (arg1 : Memref sig .tc .smem S24 .f32) (harg1 : arg1.IsWhole) (x0 : Vec F S24 .f32) : Fin 24 → F .f32 := fun k =>
  View.readAt (Elt F) arg1.view (Rect.unit (s := S24) ![k.val] S1.size (hH k)).toLoadRect (harg1.unread x0) (Shape.Idx.first (show 0 < S1.numel by decide))

/-- The maxima over each sixteen rows of the block of weights as the body loads it. -/
def ldA (arg3 : Memref sig .tc .vmem S256x1536 .bf16) (harg3 : arg3.IsWhole) (x2 : Vec F S256x1536 .bf16) : FVec F S16x1536 .f32 :=
  k0_pay10 (View.readAt (Elt F) arg3.view (Rect.unit ![0, 0] S256x1536.size inb_S256x1536_S256x1536_0_0).toLoadRect (harg3.unread x2))

/-- Sixteen rows of a tile of the weights as the body loads them. -/
def ldW (arg3 : Memref sig .tc .vmem S256x1536 .bf16) (harg3 : arg3.IsWhole) (x2 : Vec F S256x1536 .bf16) : Fin 16 → Fin 12 → Vec F S16x128 .bf16 := fun r t =>
  View.readAt (Elt F) arg3.view (Rect.unit (s := S256x1536) ![16 * r.val, 128 * t.val] S16x128.size (hW r t)).toLoadRect (harg3.unread x2)

/-- A row of a tile of a scratch buffer, as the body loads it back. -/
def ldL (arg : Memref sig .tc .vmem S16x1536 .f32) (L : List (View.Piece (Elt F) S16x1536 .f32)) : Fin 16 → Fin 12 → Vec F S1x128 .f32 := fun r t =>
  arg.view.readCov L (Rect.unit (s := S16x1536) ![r.val, 128 * t.val] S1x128.size (hL r t)).toLoadRect

end Cert.KernelIdeal.U
-- ==== Proof.Lanes.lean ====
/- The maximum over each block of sixteen lanes, read at a lane. -/
module

public import proofs.«01_k».proof.Proof.Units
public import Idealize.ShloMosaic.Lib.Pointwise

@[expose] public section

set_option maxRecDepth 16384

noncomputable section

namespace Cert.KernelIdeal.U

open Idealize.ShloMosaic Cert.KernelIdeal.Gen

/-- The lane whose number differs in the given bits. -/
def xl (s : ℕ) (l : Fin 128) : Fin 128 := ⟨(l.val ^^^ s) % 128, Nat.mod_lt _ (by decide)⟩

theorem xix1 (r : Fin 8) (l : Fin 128) : (gix (xori lane (broadcast S8x128 1#32)) (ix2 r l)).toNat % 128 = (xl 1 l).val := by
  pointwise [gix, lane]
  revert l
  decide +kernel

theorem xg1 (m : FVec Ideal S8x128 .f32) (r : Fin 8) (l : Fin 128) : xg 1#32 m (ix2 r l) = max (m (ix2 r l)) (m (ix2 r (xl 1 l))) := by
  unfold xg
  pointwise
  exact congrArg (fun k => max (m (ix2 r l)) (m (ix2 r k))) (Fin.ext (xix1 r l))

theorem xix2 (r : Fin 8) (l : Fin 128) : (gix (xori lane (broadcast S8x128 2#32)) (ix2 r l)).toNat % 128 = (xl 2 l).val := by
  pointwise [gix, lane]
  revert l
  decide +kernel

theorem xg2 (m : FVec Ideal S8x128 .f32) (r : Fin 8) (l : Fin 128) : xg 2#32 m (ix2 r l) = max (m (ix2 r l)) (m (ix2 r (xl 2 l))) := by
  unfold xg
  pointwise
  exact congrArg (fun k => max (m (ix2 r l)) (m (ix2 r k))) (Fin.ext (xix2 r l))

theorem xix4 (r : Fin 8) (l : Fin 128) : (gix (xori lane (broadcast S8x128 4#32)) (ix2 r l)).toNat % 128 = (xl 4 l).val := by
  pointwise [gix, lane]
  revert l
  decide +kernel

theorem xg4 (m : FVec Ideal S8x128 .f32) (r : Fin 8) (l : Fin 128) : xg 4#32 m (ix2 r l) = max (m (ix2 r l)) (m (ix2 r (xl 4 l))) := by
  unfold xg
  pointwise
  exact congrArg (fun k => max (m (ix2 r l)) (m (ix2 r k))) (Fin.ext (xix4 r l))

theorem xix8 (r : Fin 8) (l : Fin 128) : (gix (xori lane (broadcast S8x128 8#32)) (ix2 r l)).toNat % 128 = (xl 8 l).val := by
  pointwise [gix, lane]
  revert l
  decide +kernel

theorem xg8 (m : FVec Ideal S8x128 .f32) (r : Fin 8) (l : Fin 128) : xg 8#32 m (ix2 r l) = max (m (ix2 r l)) (m (ix2 r (xl 8 l))) := by
  unfold xg
  pointwise
  exact congrArg (fun k => max (m (ix2 r l)) (m (ix2 r k))) (Fin.ext (xix8 r l))

/-- A lane of the block of sixteen lanes that holds a lane. -/
def bl (l : Fin 128) (j : Fin 16) : Fin 128 := ⟨16 * (l.val / 16) + j.val, by omega⟩

theorem xl_bl : ∀ l : Fin 128, ∀ j : Fin 16, xl 1 (bl l j) = bl l (⟨(j.val ^^^ 1) % 16, Nat.mod_lt _ (by decide)⟩)
    ∧ xl 2 (bl l j) = bl l (⟨(j.val ^^^ 2) % 16, Nat.mod_lt _ (by decide)⟩) ∧ xl 4 (bl l j) = bl l (⟨(j.val ^^^ 4) % 16, Nat.mod_lt _ (by decide)⟩)
    ∧ xl 8 (bl l j) = bl l (⟨(j.val ^^^ 8) % 16, Nat.mod_lt _ (by decide)⟩) := by decide +kernel

/-- The place of a lane in its block. -/
def pl (l : Fin 128) : Fin 16 := ⟨l.val % 16, Nat.mod_lt _ (by decide)⟩

theorem bl_pl (l : Fin 128) : bl l (pl l) = l := Fin.ext (by show 16 * (l.val / 16) + l.val % 16 = l.val; omega)

theorem unitM_le (m : FVec Ideal S8x128 .f32) (r : Fin 8) (l : Fin 128) (c : EReal) :
    unitM m (ix2 r l) ≤ c ↔ ∀ j : Fin 16, m (ix2 r (bl l j)) ≤ c := by
  unfold unitM
  obtain ⟨p, hp⟩ : ∃ p : Fin 16, bl l p = l := ⟨_, bl_pl l⟩
  have h : ∀ p : Fin 16, xg 8#32 (xg 4#32 (xg 2#32 (xg 1#32 m))) (ix2 r (bl l p)) ≤ c ↔ ∀ j : Fin 16, m (ix2 r (bl l j)) ≤ c := by
    intro p
    simp only [xg8, xg4, xg2, xg1, (xl_bl l _).1, (xl_bl l _).2.1, (xl_bl l _).2.2.1, (xl_bl l _).2.2.2, max_le_iff]
    generalize hf : (fun j : Fin 16 => m (ix2 r (bl l j)) ≤ c) = f
    have e : ∀ j, (m (ix2 r (bl l j)) ≤ c) = f j := fun j => by rw [← hf]
    simp only [e]
    clear hf e hp
    constructor
    · intro h j
      revert h
      fin_cases p <;> fin_cases j <;> (intro h; first | exact h.1.1.1.1 | exact h.1.1.1.2 | exact h.1.1.2.1 | exact h.1.1.2.2 | exact h.1.2.1.1 | exact h.1.2.1.2 | exact h.1.2.2.1 | exact h.1.2.2.2 | exact h.2.1.1.1 | exact h.2.1.1.2 | exact h.2.1.2.1 | exact h.2.1.2.2 | exact h.2.2.1.1 | exact h.2.2.1.2 | exact h.2.2.2.1 | exact h.2.2.2.2)
    · intro h
      exact ⟨⟨⟨⟨h _, h _⟩, h _, h _⟩, ⟨h _, h _⟩, h _, h _⟩, ⟨⟨h _, h _⟩, h _, h _⟩, ⟨h _, h _⟩, h _, h _⟩
  conv_lhs => rw [← hp]
  exact h p

theorem scm (a b : EReal) : (Scalar.maximumf (F := Ideal) (φ := .f32) a b : EReal) = max a b := rfl

theorem histMax_le (h : Fin 24 → EReal) (c : EReal) : histMax (F := Ideal) h ≤ c ↔ ∀ k, h k ≤ c := by
  have e : histMax (F := Ideal) h ≤ c ↔ (((((((((((((((((((((((h 0 ≤ c ∧ h 1 ≤ c) ∧ h 2 ≤ c) ∧ h 3 ≤ c) ∧ h 4 ≤ c) ∧ h 5 ≤ c) ∧ h 6 ≤ c) ∧ h 7 ≤ c) ∧ h 8 ≤ c) ∧ h 9 ≤ c) ∧ h 10 ≤ c) ∧ h 11 ≤ c) ∧ h 12 ≤ c) ∧ h 13 ≤ c) ∧ h 14 ≤ c) ∧ h 15 ≤ c) ∧ h 16 ≤ c) ∧ h 17 ≤ c) ∧ h 18 ≤ c) ∧ h 19 ≤ c) ∧ h 20 ≤ c) ∧ h 21 ≤ c) ∧ h 22 ≤ c) ∧ h 23 ≤ c) := by
    simp only [histMax, List.foldl, scm, max_le_iff]
  rw [e]
  constructor
  · intro h k
    fin_cases k <;> simp_all
  · intro h
    simp only [h, and_self]

theorem runM_le (x : FVec Ideal S8x128 .f32) (m : Fin 2 → Fin 12 → FVec Ideal S8x128 .f32) (j : S8x128.Idx) (c : EReal) :
    runM x m j ≤ c ↔ x j ≤ c ∧ ∀ g t, unitM (m g t) j ≤ c := by
  have fl : ∀ (L : List (Fin 12)) (f : Fin 12 → FVec Ideal S8x128 .f32) (x : FVec Ideal S8x128 .f32),
      (L.foldl (fun r t => maximumf r (f t)) x) j ≤ c ↔ x j ≤ c ∧ ∀ t ∈ L, f t j ≤ c := by
    intro L f
    induction L with
    | nil => intro x; simp
    | cons a L ih =>
      intro x
      rw [List.foldl_cons, ih]
      have e : (maximumf x (f a)) j = max (x j) (f a j) := rfl
      rw [e, max_le_iff]
      simp only [List.mem_cons, forall_eq_or_imp, and_assoc]
  unfold runM
  rw [fl, fl]
  have ht : ∀ t : Fin 12, t ∈ ts := by decide
  constructor
  · rintro ⟨⟨h, h0⟩, h1⟩
    refine ⟨h, fun g t => ?_⟩
    fin_cases g
    · exact h0 t (ht t)
    · exact h1 t (ht t)
  · rintro ⟨h, h1⟩
    exact ⟨⟨h, fun t _ => h1 0 t⟩, fun t _ => h1 1 t⟩

theorem gd_at (r : Fin 8) (l : Fin 128) : gd (ix2 r l) = BitVec.ofNat 32 (l.val / 8) := by
  pointwise [gd, lane]
  revert l
  decide +kernel

theorem gm_at (r : Fin 8) (l : Fin 128) : (gix (muli gm (broadcast S8x128 16#32)) (ix2 r l)).toNat % 128 = 16 * (l.val % 8) := by
  pointwise [gix, gm, lane, eight]
  revert l
  decide +kernel

theorem comp_at (t : BitVec 32) (sb c : FVec Ideal S8x128 .f32) (r : Fin 8) (l : Fin 128) :
    comp t sb c (ix2 r l) = if BitVec.ofNat 32 (l.val / 8) = t then sb (ix2 r ⟨16 * (l.val % 8), by omega⟩) else c (ix2 r l) := by
  unfold comp
  pointwise
  rw [gd_at, show (⟨(gix (muli gm (broadcast S8x128 16#32)) (ix2 r l)).toNat % 128, Nat.mod_lt _ (by decide)⟩ : Fin 128) = ⟨16 * (l.val % 8), by omega⟩ from Fin.ext (gm_at r l)]
  unfold Scalar.select IntOp.cmpi
  by_cases h : BitVec.ofNat 32 (l.val / 8) = t
  · simp [h]
  · rw [show (BitVec.ofNat 32 (l.val / 8) == t) = false from beq_false_of_ne h, if_neg h]; rfl

theorem compG_at (st6 : FVec Ideal S8x128 .f32) (m : Fin 12 → FVec Ideal S8x128 .f32) (r : Fin 8) (l : Fin 128) (hl : l.val / 8 < 12) :
    compG st6 m (ix2 r l) = unitS st6 (m ⟨l.val / 8, hl⟩) (ix2 r ⟨16 * (l.val % 8), by omega⟩) := by
  unfold compG
  generalize unitS st6 = u
  simp only [ts, List.foldl, comp_at]
  obtain ⟨n, hn⟩ : ∃ n : Fin 12, l.val / 8 = n.val := ⟨⟨_, hl⟩, rfl⟩
  have hn' : (⟨l.val / 8, hl⟩ : Fin 12) = n := Fin.ext hn
  rw [hn', hn]
  clear hn hn' hl
  fin_cases n <;> simp

theorem unitS_at (st6 m : FVec Ideal S8x128 .f32) (j : S8x128.Idx) :
    unitS st6 m j = min (Ideal.div (unitM m j) (st6 j)) (Ideal.ofBits .f32 0x43E00000#32) := by
  unfold unitS
  generalize unitM m = u
  pointwise

theorem c_ninf : Ideal.ofBits .f32 0xFF800000#32 = (⊥ : EReal) := by
  simp [Ideal.ofBits, Ideal.ieee]

theorem pay10_le (x : Vec Ideal S256x1536 .bf16) (R : Fin 16) (l : Fin 1536) (c : EReal) :
    k0_pay10 x (ix2 R l) ≤ c ↔ ∀ i : Fin 16, max (x (ix2 ⟨16 * R.val + i.val, by omega⟩ l)) (-(x (ix2 ⟨16 * R.val + i.val, by omega⟩ l))) ≤ c := by
  pointwise [k0_pay10]
  rw [Finset.fold_max_le, c_ninf]
  simp only [bot_le, true_and, Finset.mem_univ, true_implies]
  refine forall_congr' fun i => ?_
  rw [show (⟨R.val * 16 + i.val, by omega⟩ : Fin 256) = ⟨16 * R.val + i.val, by omega⟩ from Fin.ext (by show R.val * 16 + i.val = 16 * R.val + i.val; omega)]
  exact Iff.rfl

theorem pay3_le (x : Vec Ideal S8x128 .f32) (c : EReal) : k0_pay3 x ≤ c ↔ ∀ (r : Fin 8) (l : Fin 128), x (ix2 r l) ≤ c := by
  pointwise [k0_pay3]
  rw [Finset.fold_max_le, c_ninf]
  simp only [bot_le, true_and, Finset.mem_univ, true_implies, Prod.forall]

theorem pay2_at (x : Vec Ideal S8x128 .f32) : (k0_pay2 (F := Ideal) x : EReal) = x (ix2 0 0) := by
  pointwise [k0_pay2]

end Cert.KernelIdeal.U
-- ==== Proof.Maxima.lean ====
/- The three maxima that both programs take, over the extended reals: over a block of the weights, over the history, over all weights. -/
module

public import Idealize.ShloMosaic.Lib.Pointwise

@[expose] public section

noncomputable section

namespace Cert.Q

open Idealize.ShloMosaic

/-- The largest magnitude in a block of sixteen by sixteen weights. -/
def bm (W : (⟨2, ![8960, 1536]⟩ : Shape).Idx → EReal) (R : Fin 560) (C : Fin 96) : EReal :=
  Finset.univ.fold max ⊥ fun k : Fin 16 × Fin 16 =>
    max (W (ix2 ⟨16 * R.val + k.1.val, by omega⟩ ⟨16 * C.val + k.2.val, by omega⟩)) (-(W (ix2 ⟨16 * R.val + k.1.val, by omega⟩ ⟨16 * C.val + k.2.val, by omega⟩)))

theorem bm_le (W : (⟨2, ![8960, 1536]⟩ : Shape).Idx → EReal) (R : Fin 560) (C : Fin 96) (c : EReal) :
    bm W R C ≤ c ↔ ∀ i j : Fin 16, max (W (ix2 ⟨16 * R.val + i.val, by omega⟩ ⟨16 * C.val + j.val, by omega⟩)) (-(W (ix2 ⟨16 * R.val + i.val, by omega⟩ ⟨16 * C.val + j.val, by omega⟩))) ≤ c := by
  unfold bm
  rw [Finset.fold_max_le]
  simp only [bot_le, true_and, Finset.mem_univ, true_implies, Prod.forall]

theorem mag_nonneg (x : EReal) : 0 ≤ max x (-x) := by
  rcases le_total 0 x with h | h
  · exact h.trans (le_max_left _ _)
  · exact (EReal.neg_nonneg.mpr h).trans (le_max_right _ _)

theorem bm_nonneg (W : (⟨2, ![8960, 1536]⟩ : Shape).Idx → EReal) (R : Fin 560) (C : Fin 96) : 0 ≤ bm W R C :=
  (mag_nonneg _).trans ((bm_le W R C _).mp le_rfl 0 0)

/-- The largest entry of the history. -/
def hmax (H : (⟨1, ![24]⟩ : Shape).Idx → EReal) : EReal := Finset.univ.fold max ⊥ fun k : Fin 24 => H (ix1 k)

theorem hmax_le (H : (⟨1, ![24]⟩ : Shape).Idx → EReal) (c : EReal) : hmax H ≤ c ↔ ∀ k : Fin 24, H (ix1 k) ≤ c := by
  unfold hmax
  rw [Finset.fold_max_le]
  simp only [bot_le, true_and, Finset.mem_univ, true_implies]

/-- The largest magnitude of the weights. -/
def wmax (W : (⟨2, ![8960, 1536]⟩ : Shape).Idx → EReal) : EReal := Finset.univ.fold max ⊥ fun k : Fin 560 × Fin 96 => bm W k.1 k.2

theorem wmax_le (W : (⟨2, ![8960, 1536]⟩ : Shape).Idx → EReal) (c : EReal) : wmax W ≤ c ↔ ∀ R C, bm W R C ≤ c := by
  unfold wmax
  rw [Finset.fold_max_le]
  simp only [bot_le, true_and, Finset.mem_univ, true_implies, Prod.forall]

/-- The tensor scale. -/
def sT (H : (⟨1, ![24]⟩ : Shape).Idx → EReal) : EReal := Ideal.div (hmax H) (Ideal.ofBits .f32 0x45280000#32)

/-- The block scales. -/
def sB (W : (⟨2, ![8960, 1536]⟩ : Shape).Idx → EReal) (H : (⟨1, ![24]⟩ : Shape).Idx → EReal) (R : Fin 560) (C : Fin 96) : EReal :=
  min (Ideal.div (bm W R C) (sT H * Ideal.ofBits .f32 0x40C00000#32)) (Ideal.ofBits .f32 0x43E00000#32)

end Cert.Q
-- ==== Proof.RunA.lean ====
/- The kernel body's run in case A of its two conditionals. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6520000 in
/-- What the body's stores leave in each buffer, as pieces (last first), in case A, with the triple of the body: the pieces are the witness that the run finds. -/
noncomputable def kernelRun0_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16) :
    Σ' (L3 : List (View.Piece (Elt F) S768x256 .bf16)), Σ' (L4 : List (View.Piece (Elt F) S256x768 .i8)), Σ' (L5 : List (View.Piece (Elt F) S1536x128 .i8)), Σ' (L6 : List (View.Piece (Elt F) S560x96 .fp8e4m3)), Σ' (L7 : List (View.Piece (Elt F) S1 .f32)), Σ' (L8 : List (View.Piece (Elt F) S1 .f32)), Σ' (LS0 : List (View.Piece (Elt F) S768x1536 .bf16)), Σ' (LS4 : List (View.Piece (Elt F) S640x128 .f32)), Σ' (LS5 : List (View.Piece (Elt F) S8x128 .f32)), Σ' (LT1 : List (View.Piece (Elt F) S16x1536 .f32)), Σ' (LT2 : List (View.Piece (Elt F) S16x1536 .f32)), { LT3 : List (View.Piece (Elt F) S256x1536 .bf16) //
      ∀ (xi6 : Vec F S560x96 .fp8e4m3) (xi7 : Vec F S1 .f32) (xi8 : Vec F S1 .f32) (xs4 : Vec F S640x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (arg14.view.loc (c : Thread nD τ) ↦[arg14.view.set]{fullShare} arg14.view.writes (Elt F) (harg14.unread xs4) LS4) ∗ (∃ f, arg15.view.loc (c : Thread nD τ) ↦[arg15.view.set]{fullShare} arg15.view.writes (Elt F) f LS5)) -∗ K ⟨⟩))
          ⊢ wp frame (wpE (defs₀ (F := F)) Variants.none c none) E (cc0_nvfp4_quant_matmul i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], [], ?_, ?_, ?_, ?_, ?_, ?_, fun xi6 xi7 xi8 xs4 E K => ?run⟩
  case run =>
    simp only [cc0_nvfp4_quant_matmul_eq_skeleton]; unfold cc0_nvfp4_quant_matmul_skel
    simp only [k0_part254_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part255_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part256_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part257_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, ⟨%fs4, %hfs4, HS4⟩, ⟨%ds5, %fs5, -, HS5⟩, Hk⟩
    obtain rfl := harg1.eq_unread hf0; obtain rfl := harg2.eq_unread hf1; obtain rfl := harg3.eq_unread hf2; obtain rfl := harg7.eq_unread hf6; obtain rfl := harg8.eq_unread hf7; obtain rfl := harg9.eq_unread hf8; obtain rfl := harg14.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    isplitl [HS1]; · iexists _; iexact HS1
    isplitl [HS2]; · iexists _; iexact HS2
    isplitl [HS3]; · iexists _; iexact HS3
    isplitl [HS4]; · iexact HS4
    iexists _; iexact HS5

end Cert.KernelIdeal.Gen

end
-- ==== Proof.PiecesA.lean ====
/- Run A's pieces, in terms of the vector units. -/
module

public import proofs.«01_k».proof.Proof.RunA
public import proofs.«01_k».proof.Proof.Units

@[expose] public section

set_option maxRecDepth 16384

noncomputable section

namespace Cert.KernelIdeal.U

open Idealize.ShloMosaic Cert.KernelIdeal.Gen

variable {F : FTy → Type} [FloatOps F]

set_option maxHeartbeats 2000000 in
theorem r_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.2.2.1 = (piecesR (stU (histMax (ldH arg1 harg1 x0))) (st6U (histMax (ldH arg1 harg1 x0))) (ldA arg3 harg3 x2)) := rfl

set_option maxHeartbeats 2000000 in
theorem s_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.2.2.2.1 = (piecesS (st6U (histMax (ldH arg1 harg1 x0))) (ldA arg3 harg3 x2)) := rfl

set_option maxHeartbeats 2000000 in
theorem m_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.2.1 = [⟨Rect.unit ![0, 0] S8x128.size inb_S8x128_S8x128_0_0, shapeCast S8x128 (runM (arg15.view.readCov [⟨Rect.unit ![0, 0] S8x128.size inb_S8x128_S8x128_0_0, (k0_pay5 : Vec F S8x128 .f32)⟩] (Rect.unit (s := S8x128) ![0, 0] S8x128.size inb_S8x128_S8x128_0_0).toLoadRect : Vec F S8x128 .f32) (tile (ldA arg3 harg3 x2))) shapeCasts_S8x128_S8x128⟩, ⟨Rect.unit ![0, 0] S8x128.size inb_S8x128_S8x128_0_0, k0_pay5⟩] := rfl

set_option maxHeartbeats 2000000 in
theorem d_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.2.2.2.2.1 = (piecesD (qv (ldW arg3 harg3 x2) (ldL arg11 (piecesR (stU (histMax (ldH arg1 harg1 x0))) (st6U (histMax (ldH arg1 harg1 x0))) (ldA arg3 harg3 x2)))) (sv (ldL arg12 (piecesS (st6U (histMax (ldH arg1 harg1 x0))) (ldA arg3 harg3 x2))))) := rfl

set_option maxHeartbeats 2000000 in
theorem k_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.1 = piecesK (qv (ldW arg3 harg3 x2) (ldL arg11 (piecesR (stU (histMax (ldH arg1 harg1 x0))) (st6U (histMax (ldH arg1 harg1 x0))) (ldA arg3 harg3 x2)))) := rfl

set_option maxHeartbeats 2000000 in
theorem n_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.1 = piecesN (qv (ldW arg3 harg3 x2) (ldL arg11 (piecesR (stU (histMax (ldH arg1 harg1 x0))) (st6U (histMax (ldH arg1 harg1 x0))) (ldA arg3 harg3 x2)))) := rfl

set_option maxHeartbeats 2000000 in
theorem y_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).1 = [⟨Rect.unit ![0, 0] S768x256.size inb_S768x256_S768x256_0_0, yU (stU (histMax (ldH arg1 harg1 x0))) (arg10.view.readCov [⟨Rect.unit ![0, 0] S768x1536.size inb_S768x1536_S768x1536_0_0, k0_pay4 (View.readAt (Elt F) arg2.view (Rect.unit ![0, 0] S768x1536.size inb_S768x1536_S768x1536_0_0).toLoadRect (harg2.unread x1))⟩] (Rect.unit ![0, 0] S768x1536.size inb_S768x1536_S768x1536_0_0).toLoadRect) (arg13.view.readCov (piecesD (qv (ldW arg3 harg3 x2) (ldL arg11 (piecesR (stU (histMax (ldH arg1 harg1 x0))) (st6U (histMax (ldH arg1 harg1 x0))) (ldA arg3 harg3 x2)))) (sv (ldL arg12 (piecesS (st6U (histMax (ldH arg1 harg1 x0))) (ldA arg3 harg3 x2))))) (Rect.unit ![0, 0] S256x1536.size inb_S256x1536_S256x1536_0_0).toLoadRect)⟩] := rfl

set_option maxHeartbeats 2000000 in
theorem c_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)
    (h0 : ∀ a, k0_off1 i 0#32 a + S8x128.size a ≤ S640x128.size a) (h1 : ∀ a, k0_off1 i 8#32 a + S8x128.size a ≤ S640x128.size a) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.1 = piecesC i (st6U (histMax (ldH arg1 harg1 x0))) (ldA arg3 harg3 x2) h0 h1 := rfl

set_option maxHeartbeats 2000000 in
theorem x_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.1 = [⟨Rect.unit ![0, 0] S768x1536.size inb_S768x1536_S768x1536_0_0, k0_pay4 (View.readAt (Elt F) arg2.view (Rect.unit (s := S768x1536) ![0, 0] S768x1536.size inb_S768x1536_S768x1536_0_0).toLoadRect (harg2.unread x1))⟩] := rfl

end Cert.KernelIdeal.U
-- ==== Proof.Model.lean ====
/- What the kernel's body computes from its blocks, in terms of the vector units, and the loads as those blocks' parts. -/
module

public import proofs.«01_k».proof.Proof.Units
public import Idealize.ShloMosaic.Lib.Pipeline.ValueKit
public import Idealize.ShloMosaic.Lib.VecWindow
public import Idealize.ShloMosaic.Lib.WholeRead

@[expose] public section

set_option maxRecDepth 16384

noncomputable section

namespace Cert.KernelIdeal.U

open Idealize.ShloMosaic Cert.KernelIdeal.Gen

variable {F : FTy → Type} [FloatOps F]

/-- The history's values. -/
def hM (x0 : Vec F S24 .f32) : Fin 24 → F .f32 := fun k =>
  x0 ((Rect.unit (s := S24) ![k.val] S1.size (hH k)).toLoadRect.idx (Shape.Idx.first (show 0 < S1.numel by decide)))

/-- The tensor scale. -/
def stM (x0 : Vec F S24 .f32) : FVec F S8x128 .f32 := stU (histMax (hM x0))
/-- Six times the tensor scale. -/
def st6M (x0 : Vec F S24 .f32) : FVec F S8x128 .f32 := st6U (histMax (hM x0))

/-- The maxima over each sixteen rows. -/
def aM (x2 : Vec F S256x1536 .bf16) : FVec F S16x1536 .f32 := k0_pay10 x2

/-- Sixteen rows of a tile of the weights. -/
def wM (x2 : Vec F S256x1536 .bf16) : Fin 16 → Fin 12 → Vec F S16x128 .bf16 := fun r t j =>
  x2 ((Rect.unit (s := S256x1536) ![16 * r.val, 128 * t.val] S16x128.size (hW r t)).toLoadRect.idx j)

/-- A row of a tile of a scratch buffer. -/
def lM (L : List (View.Piece (Elt F) S16x1536 .f32)) : Fin 16 → Fin 12 → Vec F S1x128 .f32 := fun r t j =>
  View.canon L ((Rect.unit (s := S16x1536) ![r.val, 128 * t.val] S1x128.size (hL r t)).toLoadRect.idx j)

/-- The reciprocals' rows. -/
def rM (x0 : Vec F S24 .f32) (x2 : Vec F S256x1536 .bf16) := lM (piecesR (stM x0) (st6M x0) (aM x2))
/-- The block scales' rows. -/
def sM (x0 : Vec F S24 .f32) (x2 : Vec F S256x1536 .bf16) := lM (piecesS (st6M x0) (aM x2))

/-- The clipped quotients. -/
def vM (x0 : Vec F S24 .f32) (x2 : Vec F S256x1536 .bf16) : Fin 4 → Fin 12 → FVec F S64x128 .f32 := qv (wM x2) (rM x0 x2)
/-- The dequantised weights. -/
def dM (x0 : Vec F S24 .f32) (x2 : Vec F S256x1536 .bf16) : Vec F S256x1536 .bf16 := View.canon (piecesD (vM x0 x2) (sv (sM x0 x2)))
/-- The block of the product. -/
def yM (x0 : Vec F S24 .f32) (xs : Vec F S768x1536 .bf16) (x2 : Vec F S256x1536 .bf16) : Vec F S768x256 .bf16 := yU (stM x0) xs (dM x0 x2)
/-- The block of the codes paired along the columns. -/
def kM (x0 : Vec F S24 .f32) (x2 : Vec F S256x1536 .bf16) : Vec F S256x768 .i8 := View.canon (piecesK (vM x0 x2))
/-- The block of the codes paired along the rows. -/
def nM (x0 : Vec F S24 .f32) (x2 : Vec F S256x1536 .bf16) : Vec F S1536x128 .i8 := View.canon (piecesN (vM x0 x2))
/-- The running maximum after one more block. -/
def mM (mx : Vec F S8x128 .f32) (x2 : Vec F S256x1536 .bf16) : Vec F S8x128 .f32 :=
  shapeCast S8x128 (runM mx (tile (aM x2))) shapeCasts_S8x128_S8x128

/-! ## The loads -/

theorem ldH_eq (arg1 : Memref sig .tc .smem S24 .f32) (harg1 : arg1.IsWhole) (x0 : Vec F S24 .f32) : ldH arg1 harg1 x0 = hM x0 :=
  funext fun _ => harg1.readAt_unread x0 _ _

theorem ldA_eq (arg3 : Memref sig .tc .vmem S256x1536 .bf16) (harg3 : arg3.IsWhole) (x2 : Vec F S256x1536 .bf16) : ldA arg3 harg3 x2 = aM x2 := by
  unfold ldA aM
  exact congrArg k0_pay10 ((View.readAt_full arg3.view _ inb_S256x1536_S256x1536_0_0).trans (Memref.IsWhole.read_unread harg3 x2))

theorem ldW_eq (arg3 : Memref sig .tc .vmem S256x1536 .bf16) (harg3 : arg3.IsWhole) (x2 : Vec F S256x1536 .bf16) : ldW arg3 harg3 x2 = wM x2 :=
  funext fun _ => funext fun _ => funext fun _ => harg3.readAt_unread x2 _ _

theorem ldL_eq (arg : Memref sig .tc .vmem S16x1536 .f32) (L : List (View.Piece (Elt F) S16x1536 .f32)) : ldL arg L = lM L :=
  funext fun _ => funext fun _ => View.readCov_eq_canon' _ _ _

theorem readX {s : Shape} {e : EltTy} {sp : Space} (arg : Memref sig .tc sp s e) (h : arg.IsWhole) (x : Vec F s e) {off : Fin s.rank → ℕ} (inb : ∀ a, off a + s.size a ≤ s.size a) :
    View.readAt (Elt F) arg.view (Rect.unit off s.size inb).toLoadRect (h.unread x) = x :=
  (View.readAt_full arg.view _ inb).trans (Memref.IsWhole.read_unread h x)

theorem readCovX {s : Shape} {e : EltTy} {sp : Space} (arg : Memref sig .tc sp s e) (L : List (View.Piece (Elt F) s e)) {off : Fin s.rank → ℕ} (inb : ∀ a, off a + s.size a ≤ s.size a) :
    arg.view.readCov L (Rect.unit off s.size inb).toLoadRect = View.canon L :=
  (View.readCov_eq_canon' _ _ _).trans (funext fun j => congrArg (View.canon L) (Rect.emb_unit_full inb j))

/-- The pieces of the reciprocals cover the buffer. -/
theorem coverD (v s : Fin 4 → Fin 12 → FVec F S64x128 .f32) (y : S256x1536.Idx) : ∃ p ∈ piecesD v s, y ∈ p.1.set :=
  View.cover_of_tiledL (piecesD v s) S64x128.size (by sl_kernel_rfl) y
theorem coverK (v : Fin 4 → Fin 12 → FVec F S64x128 .f32) (y : S256x768.Idx) : ∃ p ∈ piecesK v, y ∈ p.1.set :=
  View.cover_of_tiledL (piecesK v) S64x128.size (by sl_kernel_rfl) y
theorem coverN (v : Fin 4 → Fin 12 → FVec F S64x128 .f32) (y : S1536x128.Idx) : ∃ p ∈ piecesN v, y ∈ p.1.set :=
  View.cover_of_tiledL (piecesN v) S128x128.size (by sl_kernel_rfl) y
theorem coverR (st st6 : FVec F S8x128 .f32) (A : FVec F S16x1536 .f32) (y : S16x1536.Idx) : ∃ p ∈ piecesR st st6 A, y ∈ p.1.set :=
  View.cover_of_tiledL (piecesR st st6 A) S8x128.size (by sl_kernel_rfl) y
theorem coverS (st6 : FVec F S8x128 .f32) (A : FVec F S16x1536 .f32) (y : S16x1536.Idx) : ∃ p ∈ piecesS st6 A, y ∈ p.1.set :=
  View.cover_of_tiledL (piecesS st6 A) S8x128.size (by sl_kernel_rfl) y

/-! ## The compacted scales -/

/-- The compacted scales of a block's group of eight block rows. -/
def cM (x0 : Vec F S24 .f32) (x2 : Vec F S256x1536 .bf16) (g : Fin 2) : FVec F S8x128 .f32 := compG (st6M x0) (tile (aM x2) g)

/-- The compacted scales of all blocks, row by row. -/
def sbAll (x0 : Vec F S24 .f32) (W : ℕ → Vec F S256x1536 .bf16) : Vec F S640x128 .f32 := fun j =>
  cM x0 (W ((j 0).val / 16)) ⟨(j 0).val / 8 % 2, Nat.mod_lt _ (by decide)⟩
    (fun a => match a with | ⟨0, _⟩ => ⟨(j 0).val % 8, Nat.mod_lt _ (by decide)⟩ | ⟨1, _⟩ => ⟨(j 1).val, (j 1).isLt⟩)

/-- Where one more block's scales go. -/
theorem off1_eq : ∀ t : Fin grid0.N, ∀ a : Fin 2, k0_off1 (grid0.coords t) 0#32 a = (![16 * t.val, 0] : Fin 2 → ℕ) a ∧ k0_off1 (grid0.coords t) 8#32 a = (![16 * t.val + 8, 0] : Fin 2 → ℕ) a := by
  decide +kernel

theorem hoff0 (t : Fin grid0.N) : ∀ a, k0_off1 (grid0.coords t) 0#32 a + S8x128.size a ≤ S640x128.size a :=
  (by decide +kernel : ∀ t : Fin grid0.N, ∀ a, k0_off1 (grid0.coords t) 0#32 a + S8x128.size a ≤ S640x128.size a) t
theorem hoff1 (t : Fin grid0.N) : ∀ a, k0_off1 (grid0.coords t) 8#32 a + S8x128.size a ≤ S640x128.size a :=
  (by decide +kernel : ∀ t : Fin grid0.N, ∀ a, k0_off1 (grid0.coords t) 8#32 a + S8x128.size a ≤ S640x128.size a) t

/-- The block scales are the compacted ones' first rows and lanes. -/
theorem pay1_idx (d : Vec F S640x128 .f32) (y : S560x96.Idx) :
    transpose S560x96 [1, 0] (extractStridedSlice S96x560 ![0, 0] (transpose S128x640 [1, 0] d transposes_S640x128_p1_0_S128x640) slices_S128x640_o0_0_S96x560) transposes_S96x560_p1_0_S560x96 y
      = d (ValueIdx.ix2 (n0 := 640) (n1 := 128) ⟨(y 0).val, lt_of_lt_of_le (y 0).isLt (show (560 : ℕ) ≤ 640 by decide)⟩ ⟨(y 1).val, lt_of_lt_of_le (y 1).isLt (show (96 : ℕ) ≤ 128 by decide)⟩) :=
  (transpose_apply _ _ _ y (ValueIdx.ix2 (n0 := 96) (n1 := 560) (y 1) (y 0)) (by intro b; fin_cases b <;> rfl)).trans
    ((extractStridedSlice_apply _ _ _ _ (ValueIdx.ix2 (n0 := 128) (n1 := 640) ⟨(y 1).val, lt_of_lt_of_le (y 1).isLt (show (96 : ℕ) ≤ 128 by decide)⟩ ⟨(y 0).val, lt_of_lt_of_le (y 0).isLt (show (560 : ℕ) ≤ 640 by decide)⟩) (by intro b; fin_cases b <;> exact (Nat.zero_add _).symm)).trans
      (transpose_apply _ _ _ _ _ (by intro b; fin_cases b <;> rfl)))

theorem pay1_congr {d d' : Vec F S640x128 .f32} (h : ∀ j : S640x128.Idx, (j 0).val < 560 → d j = d' j) : k0_pay1 d = k0_pay1 d' := by
  unfold k0_pay1
  dsimp only
  congr 1
  funext y
  exact (pay1_idx d y).trans ((h _ (y 0).isLt).trans (pay1_idx d' y).symm)

theorem pick {α : Type} (f : Fin 2 → S8x128.Idx → α) {g g' : Fin 2} (h : g = g') {a a' : S8x128.Idx} (h' : a = a') : f g a = f g' a' := by
  rw [h, h']

/-- One more block's scales, stored over contents that hold the earlier blocks'. -/
theorem sbAll_step (x0 : Vec F S24 .f32) (W : ℕ → Vec F S256x1536 .bf16) (t : Fin grid0.N)
    (arg14 : Memref sig .tc .vmem S640x128 .f32) (f : arg14.view.ty.Contents (Elt F))
    (h0 : ∀ a, k0_off1 (grid0.coords t) 0#32 a + S8x128.size a ≤ S640x128.size a) (h1 : ∀ a, k0_off1 (grid0.coords t) 8#32 a + S8x128.size a ≤ S640x128.size a)
    (hd : ∀ j : S640x128.Idx, (j 0).val < 16 * t.val → arg14.view.read (Elt F) f j = sbAll x0 W j) :
    ∀ j : S640x128.Idx, (j 0).val < 16 * (t.val + 1) →
      arg14.view.read (Elt F) (arg14.view.writes (Elt F) f (piecesC (grid0.coords t) (st6M x0) (aM (W t.val)) h0 h1)) j = sbAll x0 W j := by
  intro j hj
  have e0 : k0_off1 (grid0.coords t) 0#32 = (![16 * t.val, 0] : Fin 2 → ℕ) := funext fun a => (off1_eq t a).1
  have e1 : k0_off1 (grid0.coords t) 8#32 = (![16 * t.val + 8, 0] : Fin 2 → ℕ) := funext fun a => (off1_eq t a).2
  have hj1 : (j 1).val < 128 := (j 1).isLt
  unfold piecesC
  rw [View.read_writes_cons_put _ _ _ _ _ e1, View.read_writes_cons_put _ _ _ _ _ e0, View.writes_nil]
  unfold VecWindow.put
  split_ifs with g1 g0
  · have a0 := g1 0
    have a1 : 16 * t.val + 8 ≤ (j 0).val ∧ (j 0).val < 16 * t.val + 8 + 8 := a0
    have q1 : (j 0).val / 16 = t.val := by omega
    have q2 : (j 0).val / 8 % 2 = 1 := by omega
    unfold sbAll cM
    rw [q1, shapeCast_self]
    refine pick (fun g => compG (st6M x0) (tile (aM (W t.val)) g)) (Fin.ext q2.symm) (funext fun a => ?_)
    ·
      match a with
      | ⟨0, _⟩ => exact Fin.ext (by show (j 0).val - (16 * t.val + 8) = (j 0).val % 8; omega)
      | ⟨1, _⟩ => exact Fin.ext (by show (j 1).val - 0 = (j 1).val; omega)
  · have a0 := g0 0
    have a1 : 16 * t.val ≤ (j 0).val ∧ (j 0).val < 16 * t.val + 8 := a0
    have q1 : (j 0).val / 16 = t.val := by omega
    have q2 : (j 0).val / 8 % 2 = 0 := by omega
    unfold sbAll cM
    rw [q1, shapeCast_self]
    refine pick (fun g => compG (st6M x0) (tile (aM (W t.val)) g)) (Fin.ext q2.symm) (funext fun a => ?_)
    ·
      match a with
      | ⟨0, _⟩ => exact Fin.ext (by show (j 0).val - 16 * t.val = (j 0).val % 8; omega)
      | ⟨1, _⟩ => exact Fin.ext (by show (j 1).val - 0 = (j 1).val; omega)
  · refine hd j (by
      by_contra hc
      have c0 : ¬ (16 * t.val ≤ (j 0).val ∧ (j 0).val < 16 * t.val + 8) := fun h => by
        rename_i g0
        exact g0 fun a => by
          match a with
          | ⟨0, _⟩ => exact h
          | ⟨1, _⟩ => exact ⟨Nat.zero_le _, by show (j 1).val < 0 + 128; omega⟩
      have c1 : ¬ (16 * t.val + 8 ≤ (j 0).val ∧ (j 0).val < 16 * t.val + 8 + 8) := fun h =>
        g1 fun a => by
          match a with
          | ⟨0, _⟩ => exact h
          | ⟨1, _⟩ => exact ⟨Nat.zero_le _, by show (j 1).val < 0 + 128; omega⟩
      omega)

end Cert.KernelIdeal.U
-- ==== Proof.ReadsA.lean ====
/- What run A's stores leave in each buffer, in terms of the blocks. -/
module

public import proofs.«01_k».proof.Proof.PiecesA
public import proofs.«01_k».proof.Proof.Model

@[expose] public section

set_option maxRecDepth 16384

noncomputable section

namespace Cert.KernelIdeal.U

open Idealize.ShloMosaic Cert.KernelIdeal.Gen

variable {F : FTy → Type} [FloatOps F]

set_option maxHeartbeats 2000000 in
theorem ry_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  (f : arg4.view.ty.Contents (Elt F)) :
    arg4.view.read (Elt F) (arg4.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).1) = yM x0 (k0_pay4 x1) x2 := by
  rw [y_A, View.read_writes_full, ldH_eq, ldA_eq, ldW_eq, ldL_eq, ldL_eq, View.readCov_full, readX arg2 harg2, readCovX]; rfl

set_option maxHeartbeats 2000000 in
theorem rk_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  (f : arg5.view.ty.Contents (Elt F)) :
    arg5.view.read (Elt F) (arg5.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.1) = kM x0 x2 := by
  rw [k_A, View.read_writes_eq_canon _ _ _ (coverK _), ldH_eq, ldA_eq, ldW_eq, ldL_eq]; rfl

set_option maxHeartbeats 2000000 in
theorem rn_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  (f : arg6.view.ty.Contents (Elt F)) :
    arg6.view.read (Elt F) (arg6.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.1) = nM x0 x2 := by
  rw [n_A, View.read_writes_eq_canon _ _ _ (coverN _), ldH_eq, ldA_eq, ldW_eq, ldL_eq]; rfl

set_option maxHeartbeats 2000000 in
theorem rm_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  (f : arg15.view.ty.Contents (Elt F)) :
    arg15.view.read (Elt F) (arg15.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.2.1) = mM k0_pay5 x2 := by
  rw [m_A, View.read_writes_full, View.readCov_full, ldA_eq]; rfl

set_option maxHeartbeats 2000000 in
theorem rx_A (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 i) (hc1 : ¬cond0_1 i)
    (x0 : Vec F S24 .f32) (x1 : Vec F S768x1536 .bf16) (x2 : Vec F S256x1536 .bf16)  (f : arg10.view.ty.Contents (Elt F)) :
    arg10.view.read (Elt F) (arg10.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.1) = k0_pay4 x1 := by
  rw [x_A, View.read_writes_full, readX arg2 harg2]

set_option maxHeartbeats 2000000 in
theorem rc_A (c : Dev nD) (t : Fin grid0.N) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : cond0_0 (grid0.coords t)) (hc1 : ¬cond0_1 (grid0.coords t))
    (x0 : Vec F S24 .f32) (x1 : Vec F S768x1536 .bf16) (x2 : Vec F S256x1536 .bf16)  (xs4 : Vec F S640x128 .f32) (W : ℕ → Vec F S256x1536 .bf16) (hW : x2 = W t.val)
    (hd : ∀ j : S640x128.Idx, (j 0).val < 16 * t.val → xs4 j = sbAll x0 W j) :
    ∀ j : S640x128.Idx, (j 0).val < 16 * (t.val + 1) →
      arg14.view.read (Elt F) (arg14.view.writes (Elt F) (harg14.unread xs4) (kernelRun0_A c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 ).2.2.2.2.2.2.2.1) j = sbAll x0 W j := by
  rw [c_A (h0 := hoff0 t) (h1 := hoff1 t), ldH_eq, ldA_eq, hW]
  exact sbAll_step x0 W t arg14 _ _ _ (by rw [Memref.IsWhole.read_unread]; exact hd)

end Cert.KernelIdeal.U
-- ==== Proof.RunB.lean ====
/- The kernel body's run in case B of its two conditionals. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6520000 in
/-- What the body's stores leave in each buffer, as pieces (last first), in case B, with the triple of the body: the pieces are the witness that the run finds. -/
noncomputable def kernelRun0_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    Σ' (L3 : List (View.Piece (Elt F) S768x256 .bf16)), Σ' (L4 : List (View.Piece (Elt F) S256x768 .i8)), Σ' (L5 : List (View.Piece (Elt F) S1536x128 .i8)), Σ' (L6 : List (View.Piece (Elt F) S560x96 .fp8e4m3)), Σ' (L7 : List (View.Piece (Elt F) S1 .f32)), Σ' (L8 : List (View.Piece (Elt F) S1 .f32)), Σ' (LS0 : List (View.Piece (Elt F) S768x1536 .bf16)), Σ' (LS4 : List (View.Piece (Elt F) S640x128 .f32)), Σ' (LS5 : List (View.Piece (Elt F) S8x128 .f32)), Σ' (LT1 : List (View.Piece (Elt F) S16x1536 .f32)), Σ' (LT2 : List (View.Piece (Elt F) S16x1536 .f32)), { LT3 : List (View.Piece (Elt F) S256x1536 .bf16) //
      ∀ (xi6 : Vec F S560x96 .fp8e4m3) (xi7 : Vec F S1 .f32) (xi8 : Vec F S1 .f32) (xs4 : Vec F S640x128 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ owns (c : Thread nD τ) arg9 fullShare xi8 ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ owns (c : Thread nD τ) arg15 fullShare xs5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ owns (c : Thread nD τ) arg9 fullShare xi8 ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (arg14.view.loc (c : Thread nD τ) ↦[arg14.view.set]{fullShare} arg14.view.writes (Elt F) (harg14.unread xs4) LS4) ∗ (∃ f, arg15.view.loc (c : Thread nD τ) ↦[arg15.view.set]{fullShare} arg15.view.writes (Elt F) f LS5)) -∗ K ⟨⟩))
          ⊢ wp frame (wpE (defs₀ (F := F)) Variants.none c none) E (cc0_nvfp4_quant_matmul i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], [], [], ?_, ?_, ?_, ?_, ?_, fun xi6 xi7 xi8 xs4 E K => ?run⟩
  case run =>
    simp only [cc0_nvfp4_quant_matmul_eq_skeleton]; unfold cc0_nvfp4_quant_matmul_skel
    simp only [k0_part254_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part255_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part256_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part257_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg7.eq_unread hf6; obtain rfl := harg8.eq_unread hf7; obtain rfl := harg9.eq_unread hf8; obtain rfl := harg10.eq_unread hfs0; obtain rfl := harg14.eq_unread hfs4; obtain rfl := harg15.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    isplitl [HS1]; · iexists _; iexact HS1
    isplitl [HS2]; · iexists _; iexact HS2
    isplitl [HS3]; · iexists _; iexact HS3
    isplitl [HS4]; · iexact HS4
    iexists _; iexact HS5

end Cert.KernelIdeal.Gen

end
-- ==== Proof.PiecesB.lean ====
/- Run B's pieces, in terms of the vector units. -/
module

public import proofs.«01_k».proof.Proof.RunB
public import proofs.«01_k».proof.Proof.Units

@[expose] public section

set_option maxRecDepth 16384

noncomputable section

namespace Cert.KernelIdeal.U

open Idealize.ShloMosaic Cert.KernelIdeal.Gen

variable {F : FTy → Type} [FloatOps F]

set_option maxHeartbeats 2000000 in
theorem r_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.2.2.1 = (piecesR (stU (histMax (ldH arg1 harg1 x0))) (st6U (histMax (ldH arg1 harg1 x0))) (ldA arg3 harg3 x2)) := rfl

set_option maxHeartbeats 2000000 in
theorem s_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.2.2.2.1 = (piecesS (st6U (histMax (ldH arg1 harg1 x0))) (ldA arg3 harg3 x2)) := rfl

set_option maxHeartbeats 2000000 in
theorem m_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.2.1 = [⟨Rect.unit ![0, 0] S8x128.size inb_S8x128_S8x128_0_0, shapeCast S8x128 (runM (View.readAt (Elt F) arg15.view (Rect.unit ![0, 0] S8x128.size inb_S8x128_S8x128_0_0).toLoadRect (harg15.unread xs5)) (tile (ldA arg3 harg3 x2))) shapeCasts_S8x128_S8x128⟩] := rfl

set_option maxHeartbeats 2000000 in
theorem d_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.2.2.2.2.1 = (piecesD (qv (ldW arg3 harg3 x2) (ldL arg11 (piecesR (stU (histMax (ldH arg1 harg1 x0))) (st6U (histMax (ldH arg1 harg1 x0))) (ldA arg3 harg3 x2)))) (sv (ldL arg12 (piecesS (st6U (histMax (ldH arg1 harg1 x0))) (ldA arg3 harg3 x2))))) := rfl

set_option maxHeartbeats 2000000 in
theorem k_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.1 = piecesK (qv (ldW arg3 harg3 x2) (ldL arg11 (piecesR (stU (histMax (ldH arg1 harg1 x0))) (st6U (histMax (ldH arg1 harg1 x0))) (ldA arg3 harg3 x2)))) := rfl

set_option maxHeartbeats 2000000 in
theorem n_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.1 = piecesN (qv (ldW arg3 harg3 x2) (ldL arg11 (piecesR (stU (histMax (ldH arg1 harg1 x0))) (st6U (histMax (ldH arg1 harg1 x0))) (ldA arg3 harg3 x2)))) := rfl

set_option maxHeartbeats 2000000 in
theorem y_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).1 = [⟨Rect.unit ![0, 0] S768x256.size inb_S768x256_S768x256_0_0, yU (stU (histMax (ldH arg1 harg1 x0))) (View.readAt (Elt F) arg10.view (Rect.unit ![0, 0] S768x1536.size inb_S768x1536_S768x1536_0_0).toLoadRect (harg10.unread xs0)) (arg13.view.readCov (piecesD (qv (ldW arg3 harg3 x2) (ldL arg11 (piecesR (stU (histMax (ldH arg1 harg1 x0))) (st6U (histMax (ldH arg1 harg1 x0))) (ldA arg3 harg3 x2)))) (sv (ldL arg12 (piecesS (st6U (histMax (ldH arg1 harg1 x0))) (ldA arg3 harg3 x2))))) (Rect.unit ![0, 0] S256x1536.size inb_S256x1536_S256x1536_0_0).toLoadRect)⟩] := rfl

set_option maxHeartbeats 2000000 in
theorem c_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32)
    (h0 : ∀ a, k0_off1 i 0#32 a + S8x128.size a ≤ S640x128.size a) (h1 : ∀ a, k0_off1 i 8#32 a + S8x128.size a ≤ S640x128.size a) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.1 = piecesC i (st6U (histMax (ldH arg1 harg1 x0))) (ldA arg3 harg3 x2) h0 h1 := rfl

end Cert.KernelIdeal.U
-- ==== Proof.ReadsB.lean ====
/- What run B's stores leave in each buffer, in terms of the blocks. -/
module

public import proofs.«01_k».proof.Proof.PiecesB
public import proofs.«01_k».proof.Proof.Model

@[expose] public section

set_option maxRecDepth 16384

noncomputable section

namespace Cert.KernelIdeal.U

open Idealize.ShloMosaic Cert.KernelIdeal.Gen

variable {F : FTy → Type} [FloatOps F]

set_option maxHeartbeats 2000000 in
theorem ry_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) (f : arg4.view.ty.Contents (Elt F)) :
    arg4.view.read (Elt F) (arg4.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).1) = yM x0 xs0 x2 := by
  rw [y_B, View.read_writes_full, ldH_eq, ldA_eq, ldW_eq, ldL_eq, ldL_eq, readCovX, readX arg10 harg10]; rfl

set_option maxHeartbeats 2000000 in
theorem rk_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) (f : arg5.view.ty.Contents (Elt F)) :
    arg5.view.read (Elt F) (arg5.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.1) = kM x0 x2 := by
  rw [k_B, View.read_writes_eq_canon _ _ _ (coverK _), ldH_eq, ldA_eq, ldW_eq, ldL_eq]; rfl

set_option maxHeartbeats 2000000 in
theorem rn_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) (f : arg6.view.ty.Contents (Elt F)) :
    arg6.view.read (Elt F) (arg6.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.1) = nM x0 x2 := by
  rw [n_B, View.read_writes_eq_canon _ _ _ (coverN _), ldH_eq, ldA_eq, ldW_eq, ldL_eq]; rfl

set_option maxHeartbeats 2000000 in
theorem rm_B (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : ¬cond0_1 i)
    (x0 : Vec F S24 .f32) (x1 : Vec F S768x1536 .bf16) (x2 : Vec F S256x1536 .bf16) (xs0 : Vec F S768x1536 .bf16) (xs5 : Vec F S8x128 .f32) (f : arg15.view.ty.Contents (Elt F)) :
    arg15.view.read (Elt F) (arg15.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.2.1) = mM xs5 x2 := by
  rw [m_B, View.read_writes_full, readX arg15 harg15, ldA_eq]; rfl

set_option maxHeartbeats 2000000 in
theorem rc_B (c : Dev nD) (t : Fin grid0.N) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 (grid0.coords t)) (hc1 : ¬cond0_1 (grid0.coords t))
    (x0 : Vec F S24 .f32) (x1 : Vec F S768x1536 .bf16) (x2 : Vec F S256x1536 .bf16) (xs0 : Vec F S768x1536 .bf16) (xs5 : Vec F S8x128 .f32) (xs4 : Vec F S640x128 .f32) (W : ℕ → Vec F S256x1536 .bf16) (hW : x2 = W t.val)
    (hd : ∀ j : S640x128.Idx, (j 0).val < 16 * t.val → xs4 j = sbAll x0 W j) :
    ∀ j : S640x128.Idx, (j 0).val < 16 * (t.val + 1) →
      arg14.view.read (Elt F) (arg14.view.writes (Elt F) (harg14.unread xs4) (kernelRun0_B c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs5).2.2.2.2.2.2.2.1) j = sbAll x0 W j := by
  rw [c_B (h0 := hoff0 t) (h1 := hoff1 t), ldH_eq, ldA_eq, hW]
  exact sbAll_step x0 W t arg14 _ _ _ (by rw [Memref.IsWhole.read_unread]; exact hd)

end Cert.KernelIdeal.U
-- ==== Proof.RunC.lean ====
/- The kernel body's run in case C of its two conditionals. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6520000 in
/-- What the body's stores leave in each buffer, as pieces (last first), in case C, with the triple of the body: the pieces are the witness that the run finds. -/
noncomputable def kernelRun0_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    Σ' (L3 : List (View.Piece (Elt F) S768x256 .bf16)), Σ' (L4 : List (View.Piece (Elt F) S256x768 .i8)), Σ' (L5 : List (View.Piece (Elt F) S1536x128 .i8)), Σ' (L6 : List (View.Piece (Elt F) S560x96 .fp8e4m3)), Σ' (L7 : List (View.Piece (Elt F) S1 .f32)), Σ' (L8 : List (View.Piece (Elt F) S1 .f32)), Σ' (LS0 : List (View.Piece (Elt F) S768x1536 .bf16)), Σ' (LS4 : List (View.Piece (Elt F) S640x128 .f32)), Σ' (LS5 : List (View.Piece (Elt F) S8x128 .f32)), Σ' (LT1 : List (View.Piece (Elt F) S16x1536 .f32)), Σ' (LT2 : List (View.Piece (Elt F) S16x1536 .f32)), { LT3 : List (View.Piece (Elt F) S256x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs4 ∗ owns (c : Thread nD τ) arg15 fullShare xs5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (arg14.view.loc (c : Thread nD τ) ↦[arg14.view.set]{fullShare} arg14.view.writes (Elt F) (harg14.unread xs4) LS4) ∗ (∃ f, arg15.view.loc (c : Thread nD τ) ↦[arg15.view.set]{fullShare} arg15.view.writes (Elt F) f LS5)) -∗ K ⟨⟩))
          ⊢ wp frame (wpE (defs₀ (F := F)) Variants.none c none) E (cc0_nvfp4_quant_matmul i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, [], ?_, ?_, ?_, ?_, ?_, fun E K => ?run⟩
  case run =>
    simp only [cc0_nvfp4_quant_matmul_eq_skeleton]; unfold cc0_nvfp4_quant_matmul_skel
    simp only [k0_part254_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part255_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part256_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part257_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg10.eq_unread hfs0; obtain rfl := harg14.eq_unread hfs4; obtain rfl := harg15.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg10.read_unread _
      iexact HS0
    isplitl [HS1]; · iexists _; iexact HS1
    isplitl [HS2]; · iexists _; iexact HS2
    isplitl [HS3]; · iexists _; iexact HS3
    isplitl [HS4]; · iexact HS4
    iexists _; iexact HS5

end Cert.KernelIdeal.Gen

end
-- ==== Proof.PiecesC.lean ====
/- Run C's pieces, in terms of the vector units. -/
module

public import proofs.«01_k».proof.Proof.RunC
public import proofs.«01_k».proof.Proof.Units

@[expose] public section

set_option maxRecDepth 16384

noncomputable section

namespace Cert.KernelIdeal.U

open Idealize.ShloMosaic Cert.KernelIdeal.Gen

variable {F : FTy → Type} [FloatOps F]

set_option maxHeartbeats 2000000 in
theorem r_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.2.2.1 = (piecesR (stU (histMax (ldH arg1 harg1 x0))) (st6U (histMax (ldH arg1 harg1 x0))) (ldA arg3 harg3 x2)) := rfl

set_option maxHeartbeats 2000000 in
theorem s_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.2.2.2.1 = (piecesS (st6U (histMax (ldH arg1 harg1 x0))) (ldA arg3 harg3 x2)) := rfl

set_option maxHeartbeats 2000000 in
theorem m_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.2.1 = [⟨Rect.unit ![0, 0] S8x128.size inb_S8x128_S8x128_0_0, shapeCast S8x128 (runM (View.readAt (Elt F) arg15.view (Rect.unit ![0, 0] S8x128.size inb_S8x128_S8x128_0_0).toLoadRect (harg15.unread xs5)) (tile (ldA arg3 harg3 x2))) shapeCasts_S8x128_S8x128⟩] := rfl

set_option maxHeartbeats 2000000 in
theorem d_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.2.2.2.2.1 = (piecesD (qv (ldW arg3 harg3 x2) (ldL arg11 (piecesR (stU (histMax (ldH arg1 harg1 x0))) (st6U (histMax (ldH arg1 harg1 x0))) (ldA arg3 harg3 x2)))) (sv (ldL arg12 (piecesS (st6U (histMax (ldH arg1 harg1 x0))) (ldA arg3 harg3 x2))))) := rfl

set_option maxHeartbeats 2000000 in
theorem k_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.1 = piecesK (qv (ldW arg3 harg3 x2) (ldL arg11 (piecesR (stU (histMax (ldH arg1 harg1 x0))) (st6U (histMax (ldH arg1 harg1 x0))) (ldA arg3 harg3 x2)))) := rfl

set_option maxHeartbeats 2000000 in
theorem n_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.1 = piecesN (qv (ldW arg3 harg3 x2) (ldL arg11 (piecesR (stU (histMax (ldH arg1 harg1 x0))) (st6U (histMax (ldH arg1 harg1 x0))) (ldA arg3 harg3 x2)))) := rfl

set_option maxHeartbeats 2000000 in
theorem y_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).1 = [⟨Rect.unit ![0, 0] S768x256.size inb_S768x256_S768x256_0_0, yU (stU (histMax (ldH arg1 harg1 x0))) (View.readAt (Elt F) arg10.view (Rect.unit ![0, 0] S768x1536.size inb_S768x1536_S768x1536_0_0).toLoadRect (harg10.unread xs0)) (arg13.view.readCov (piecesD (qv (ldW arg3 harg3 x2) (ldL arg11 (piecesR (stU (histMax (ldH arg1 harg1 x0))) (st6U (histMax (ldH arg1 harg1 x0))) (ldA arg3 harg3 x2)))) (sv (ldL arg12 (piecesS (st6U (histMax (ldH arg1 harg1 x0))) (ldA arg3 harg3 x2))))) (Rect.unit ![0, 0] S256x1536.size inb_S256x1536_S256x1536_0_0).toLoadRect)⟩] := rfl

set_option maxHeartbeats 2000000 in
theorem c_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32)
    (h0 : ∀ a, k0_off1 i 0#32 a + S8x128.size a ≤ S640x128.size a) (h1 : ∀ a, k0_off1 i 8#32 a + S8x128.size a ≤ S640x128.size a) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.1 = piecesC i (st6U (histMax (ldH arg1 harg1 x0))) (ldA arg3 harg3 x2) h0 h1 := rfl

set_option maxHeartbeats 2000000 in
theorem t_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.1 = [⟨Rect.unit ![0] ![1] inb_S1_S1_0, fun _ => k0_pay2 (stU (histMax (ldH arg1 harg1 x0)))⟩] := rfl

set_option maxHeartbeats 2000000 in
theorem w_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.1 = [⟨Rect.unit ![0] ![1] inb_S1_S1_0, fun _ => k0_pay3 (arg15.view.readCov [⟨Rect.unit ![0, 0] S8x128.size inb_S8x128_S8x128_0_0, shapeCast S8x128 (runM (View.readAt (Elt F) arg15.view (Rect.unit ![0, 0] S8x128.size inb_S8x128_S8x128_0_0).toLoadRect (harg15.unread xs5)) (tile (ldA arg3 harg3 x2))) shapeCasts_S8x128_S8x128⟩] (Rect.unit (s := S8x128) ![0, 0] S8x128.size inb_S8x128_S8x128_0_0).toLoadRect)⟩] := rfl

set_option maxHeartbeats 2000000 in
theorem b_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32)
    (h0 : ∀ a, k0_off1 i 0#32 a + S8x128.size a ≤ S640x128.size a) (h1 : ∀ a, k0_off1 i 8#32 a + S8x128.size a ≤ S640x128.size a) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.1 = [⟨Rect.unit ![0, 0] S560x96.size inb_S560x96_S560x96_0_0, k0_pay1 (View.readAt (Elt F) arg14.view (Rect.unit (s := S640x128) ![0, 0] S640x128.size inb_S640x128_S640x128_0_0).toLoadRect (arg14.view.writes (Elt F) (harg14.unread xs4) (piecesC i (st6U (histMax (ldH arg1 harg1 x0))) (ldA arg3 harg3 x2) h0 h1)))⟩] := rfl

end Cert.KernelIdeal.U
-- ==== Proof.ReadsC.lean ====
/- What run C's stores leave in each buffer, in terms of the blocks. -/
module

public import proofs.«01_k».proof.Proof.PiecesC
public import proofs.«01_k».proof.Proof.Model

@[expose] public section

set_option maxRecDepth 16384

noncomputable section

namespace Cert.KernelIdeal.U

open Idealize.ShloMosaic Cert.KernelIdeal.Gen

variable {F : FTy → Type} [FloatOps F]

set_option maxHeartbeats 2000000 in
theorem ry_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) (f : arg4.view.ty.Contents (Elt F)) :
    arg4.view.read (Elt F) (arg4.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).1) = yM x0 xs0 x2 := by
  rw [y_C, View.read_writes_full, ldH_eq, ldA_eq, ldW_eq, ldL_eq, ldL_eq, readCovX, readX arg10 harg10]; rfl

set_option maxHeartbeats 2000000 in
theorem rk_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) (f : arg5.view.ty.Contents (Elt F)) :
    arg5.view.read (Elt F) (arg5.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.1) = kM x0 x2 := by
  rw [k_C, View.read_writes_eq_canon _ _ _ (coverK _), ldH_eq, ldA_eq, ldW_eq, ldL_eq]; rfl

set_option maxHeartbeats 2000000 in
theorem rn_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) (f : arg6.view.ty.Contents (Elt F)) :
    arg6.view.read (Elt F) (arg6.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.1) = nM x0 x2 := by
  rw [n_C, View.read_writes_eq_canon _ _ _ (coverN _), ldH_eq, ldA_eq, ldW_eq, ldL_eq]; rfl

set_option maxHeartbeats 2000000 in
theorem rm_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) (f : arg15.view.ty.Contents (Elt F)) :
    arg15.view.read (Elt F) (arg15.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.2.1) = mM xs5 x2 := by
  rw [m_C, View.read_writes_full, readX arg15 harg15, ldA_eq]; rfl

set_option maxHeartbeats 2000000 in
theorem rt_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) (f : arg8.view.ty.Contents (Elt F)) :
    arg8.view.read (Elt F) (arg8.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.1) = fun _ => k0_pay2 (stM x0) := by
  rw [t_C]; exact (View.read_writes_full arg8.view f inb_S1_S1_0 _ []).trans (by rw [ldH_eq]; rfl)

set_option maxHeartbeats 2000000 in
theorem rw_C (c : Dev nD) (i : grid0.Coords) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 i) (hc1 : cond0_1 i)
    (x0 : Vec F S24 .f32) (x1 : Vec F S768x1536 .bf16) (x2 : Vec F S256x1536 .bf16) (xs0 : Vec F S768x1536 .bf16) (xs4 : Vec F S640x128 .f32) (xs5 : Vec F S8x128 .f32) (f : arg9.view.ty.Contents (Elt F)) :
    arg9.view.read (Elt F) (arg9.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.1) = fun _ => k0_pay3 (mM xs5 x2) := by
  rw [w_C]; exact (View.read_writes_full arg9.view f inb_S1_S1_0 _ []).trans (by rw [View.readCov_full, readX arg15 harg15, ldA_eq]; rfl)

set_option maxHeartbeats 2000000 in
theorem rc_C (c : Dev nD) (t : Fin grid0.N) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 (grid0.coords t)) (hc1 : cond0_1 (grid0.coords t))
    (x0 : Vec F S24 .f32) (x1 : Vec F S768x1536 .bf16) (x2 : Vec F S256x1536 .bf16) (xs0 : Vec F S768x1536 .bf16) (xs4 : Vec F S640x128 .f32) (xs5 : Vec F S8x128 .f32) (W : ℕ → Vec F S256x1536 .bf16) (hW : x2 = W t.val)
    (hd : ∀ j : S640x128.Idx, (j 0).val < 16 * t.val → xs4 j = sbAll x0 W j) :
    ∀ j : S640x128.Idx, (j 0).val < 16 * (t.val + 1) →
      arg14.view.read (Elt F) (arg14.view.writes (Elt F) (harg14.unread xs4) (kernelRun0_C c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.2.2.2.2.1) j = sbAll x0 W j := by
  rw [c_C (h0 := hoff0 t) (h1 := hoff1 t), ldH_eq, ldA_eq, hW]
  exact sbAll_step x0 W t arg14 _ _ _ (by rw [Memref.IsWhole.read_unread]; exact hd)

set_option maxHeartbeats 2000000 in
theorem rb_C (c : Dev nD) (t : Fin grid0.N) (arg1 : Memref sig .tc .smem S24 .f32) (harg1 : arg1.IsWhole) (arg2 : Memref sig .tc .vmem S768x1536 .bf16) (harg2 : arg2.IsWhole) (arg3 : Memref sig .tc .vmem S256x1536 .bf16) (harg3 : arg3.IsWhole) (arg4 : Memref sig .tc .vmem S768x256 .bf16) (harg4 : arg4.IsWhole) (arg5 : Memref sig .tc .vmem S256x768 .i8) (harg5 : arg5.IsWhole) (arg6 : Memref sig .tc .vmem S1536x128 .i8) (harg6 : arg6.IsWhole) (arg7 : Memref sig .tc .vmem S560x96 .fp8e4m3) (harg7 : arg7.IsWhole) (arg8 : Memref sig .tc .smem S1 .f32) (harg8 : arg8.IsWhole) (arg9 : Memref sig .tc .smem S1 .f32) (harg9 : arg9.IsWhole) (arg10 : Memref sig .tc .vmem S768x1536 .bf16) (harg10 : arg10.IsWhole) (arg11 : Memref sig .tc .vmem S16x1536 .f32) (harg11 : arg11.IsWhole) (arg12 : Memref sig .tc .vmem S16x1536 .f32) (harg12 : arg12.IsWhole) (arg13 : Memref sig .tc .vmem S256x1536 .bf16) (harg13 : arg13.IsWhole) (arg14 : Memref sig .tc .vmem S640x128 .f32) (harg14 : arg14.IsWhole) (arg15 : Memref sig .tc .vmem S8x128 .f32) (harg15 : arg15.IsWhole) (hc0 : ¬cond0_0 (grid0.coords t)) (hc1 : cond0_1 (grid0.coords t))
    (x0 : Vec F S24 .f32) (x1 : Vec F S768x1536 .bf16) (x2 : Vec F S256x1536 .bf16) (xs0 : Vec F S768x1536 .bf16) (xs4 : Vec F S640x128 .f32) (xs5 : Vec F S8x128 .f32) (W : ℕ → Vec F S256x1536 .bf16) (hW : x2 = W t.val)
    (hd : ∀ j : S640x128.Idx, (j 0).val < 16 * t.val → xs4 j = sbAll x0 W j) (ht : t.val = 34) (f : arg7.view.ty.Contents (Elt F)) :
    arg7.view.read (Elt F) (arg7.view.writes (Elt F) f (kernelRun0_C c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 xs0 xs4 xs5).2.2.2.1) = k0_pay1 (sbAll x0 W) := by
  rw [b_C (h0 := hoff0 t) (h1 := hoff1 t), View.read_writes_full, View.readAt_full, ldH_eq, ldA_eq, hW]
  refine pay1_congr fun j hj => ?_
  exact sbAll_step x0 W t arg14 _ _ _ (by rw [Memref.IsWhole.read_unread]; exact hd) j (by omega)

end Cert.KernelIdeal.U
-- ==== Proof.FrameV.lean ====
/- What the arrays hold when the kernel's region ends: the proof data, the body at every point, the run. -/
module

public import proofs.«01_k».proof.Proof.ReadsA
public import proofs.«01_k».proof.Proof.ReadsB
public import proofs.«01_k».proof.Proof.ReadsC
public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.U

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
def pt0 : Fin cfg0.N := ⟨0, by rw [show cfg0.N = 35 from N_0]; decide⟩

/-- The history. -/
def hB (c : Dev nD) : Vec F S24 .f32 := iblk m c 0 pt0
/-- The activations. -/
def xB (c : Dev nD) : Vec F S768x1536 .bf16 := iblk m c 1 pt0
/-- The blocks of the weights. -/
def wB (c : Dev nD) (n : ℕ) : Vec F S256x1536 .bf16 := if h : n < cfg0.N then iblk m c 2 ⟨n, h⟩ else iblk m c 2 pt0
/-- The running maximum before each point. -/
def mB (c : Dev nD) : ℕ → Vec F S8x128 .f32
  | 0 => k0_pay5
  | n + 1 => mM (mB c n) (wB m c n)

theorem hB_eq (c : Dev nD) (t : Fin cfg0.N) : (iblk m c 0 t : Vec F S24 .f32) = hB m c := rfl
theorem xB_eq (c : Dev nD) (t : Fin cfg0.N) : (iblk m c 1 t : Vec F S768x1536 .bf16) = xB m c := rfl
theorem wB_eq (c : Dev nD) (t : Fin cfg0.N) : (iblk m c 2 t : Vec F S256x1536 .bf16) = wB m c t.val := by
  unfold wB; rw [dif_pos t.isLt]

/-- The region's invariant: before the first point the scratch at anything; afterwards the activations copied, the running
    maximum, and the block scales of the points so far. -/
def PhiS (c : Dev nD) : (n : ℕ) → n ≤ cfg0.N → sProp 𝕄
  | 0, _ => Pipeline.ΦA spec0 c
  | n + 1, _ => iprop(iprop(owns (c : Thread nD τ) scM0_0 fullShare (k0_pay4 (xB m c)) ∗ (∃ d, owns (c : Thread nD τ) scM0_1 fullShare d) ∗ (∃ d, owns (c : Thread nD τ) scM0_2 fullShare d) ∗ (∃ d, owns (c : Thread nD τ) scM0_3 fullShare d) ∗ (∃ d, ⌜∀ j : S640x128.Idx, (j 0).val < 16 * (n + 1) → d j = sbAll (hB m c) (wB m c) j⌝ ∗ owns (c : Thread nD τ) scM0_4 fullShare d) ∗ owns (c : Thread nD τ) scM0_5 fullShare (mB m c (n + 1))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (k0_pay4 (xB m c)) ∗ (∃ d, owns (c : Thread nD τ) scM0_1 fullShare d) ∗ (∃ d, owns (c : Thread nD τ) scM0_2 fullShare d) ∗ (∃ d, owns (c : Thread nD τ) scM0_3 fullShare d) ∗ (∃ d, ⌜∀ j : S640x128.Idx, (j 0).val < 16 * (n + 1) → d j = sbAll (hB m c) (wB m c) j⌝ ∗ owns (c : Thread nD τ) scM0_4 fullShare d) ∗ owns (c : Thread nD τ) scM0_5 fullShare (mB m c (n + 1))) ∗ (∃ r, prngReg c r)) := rfl

theorem PhiS_pos (c : Dev nD) (n : ℕ) (h : n ≤ cfg0.N) (hz : n ≠ 0) :
    PhiS m c n h = iprop(iprop(owns (c : Thread nD τ) scM0_0 fullShare (k0_pay4 (xB m c)) ∗ (∃ d, owns (c : Thread nD τ) scM0_1 fullShare d) ∗ (∃ d, owns (c : Thread nD τ) scM0_2 fullShare d) ∗ (∃ d, owns (c : Thread nD τ) scM0_3 fullShare d) ∗ (∃ d, ⌜∀ j : S640x128.Idx, (j 0).val < 16 * n → d j = sbAll (hB m c) (wB m c) j⌝ ∗ owns (c : Thread nD τ) scM0_4 fullShare d) ∗ owns (c : Thread nD τ) scM0_5 fullShare (mB m c n)) ∗ (∃ r, prngReg c r)) := by
  cases n with
  | zero => exact absurd rfl hz
  | succ n => rfl

/-- The proof data: the arrays as the region finds them, what each point leaves in the buffers, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yM (hB m c) (k0_pay4 (xB m c)) (wB m c t.val)
    | ⟨4, _⟩ => kM (hB m c) (wB m c t.val)
    | ⟨5, _⟩ => nM (hB m c) (wB m c t.val)
    | ⟨6, _⟩ => k0_pay1 (sbAll (hB m c) (wB m c))
    | ⟨7, _⟩ => (fun _ => k0_pay2 (stM (hB m c)))
    | ⟨8, _⟩ => (fun _ => k0_pay3 (mB m c 35))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yM (hB m c) (k0_pay4 (xB m c)) (wB m c t.val) := by dsimp only [dats]
theorem after0_4 (c : Dev nD) (t : Fin cfg0.N) : (dats m 0 c).after 4 t = kM (hB m c) (wB m c t.val) := by dsimp only [dats]
theorem after0_5 (c : Dev nD) (t : Fin cfg0.N) : (dats m 0 c).after 5 t = nM (hB m c) (wB m c t.val) := by dsimp only [dats]
theorem after0_6 (c : Dev nD) (t : Fin cfg0.N) : (dats m 0 c).after 6 t = k0_pay1 (sbAll (hB m c) (wB m c)) := by dsimp only [dats]
theorem after0_7 (c : Dev nD) (t : Fin cfg0.N) : (dats m 0 c).after 7 t = (fun _ => k0_pay2 (stM (hB m c))) := by dsimp only [dats]
theorem after0_8 (c : Dev nD) (t : Fin cfg0.N) : (dats m 0 c).after 8 t = (fun _ => k0_pay3 (mB m c 35)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2000000 in
/-- The body at a point of case A. -/
theorem sound_A (c : Dev nD) (t : Fin cfg0.N) (h0 : t.val % 35 = 0) (h1 : ¬t.val % 35 = 34) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 35 := lt_of_lt_of_eq t.isLt (show cfg0.N = 35 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  have hz : t.val = 0 := by omega
  rw [PhiS_castSucc m c t, PhiS_zero m c _ _ hz, PhiA0_eq]
  iintro ⟨⟨⟨HS0, HS1, HS2, HS3, ⟨%xs4, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) ).2.2.2.2.2.2.2.2.2.2.2.2 _ _ _ _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e4, H4⟩, ⟨%e5, H5⟩, H6, H7, H8, ⟨%es0, HS0⟩, ⟨%fT1, HS1⟩, ⟨%fT2, HS2⟩, ⟨%fT3, HS3⟩, HS4, ⟨%es5, HS5⟩⟩
  isplitl [HS0 HS1 HS2 HS3 HS4 HS5 Hg]
  · isplitl [HS0 HS1 HS2 HS3 HS4 HS5]
    · isplitl [HS0]
      · unfold owns; iexists _; isplitr
        swap; · iexact HS0
        ipureintro; exact U.rx_A _ _ _ _ _ _ _ _ _ _ _ _ _ _ _ _ _ _ _ _ _ _ _ _ _ _ _ _ _ _ _ _ _ _ _ _ _ _
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; isplitr
        swap
        · unfold owns; iexists _; isplitr
          swap; · iexact HS4
          ipureintro; rfl
        ipureintro; exact U.rc_A _ _ _ _ _ _ _ _ _ _ _ _ _ _ _ _ _ _ _ _ _ _ _ _ _ _ _ _ _ _ _ _ _ _ _ _ _ _ (wB m c) (wB_eq m c t) (fun j hj => absurd hj (by omega))
      unfold owns; iexists _; isplitr
      swap; · iexact HS5
      ipureintro; exact (U.rm_A _ _ _ _ _ _ _ _ _ _ _ _ _ _ _ _ _ _ _ _ _ _ _ _ _ _ _ _ _ _ _ _ _ _ _ _ _ _).trans (by rw [wB_eq]; rw [hz]; rfl)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (U.ry_A _ _ _ _ _ _ _ _ _ _ _ _ _ _ _ _ _ _ _ _ _ _ _ _ _ _ _ _ _ _ _ _ _ _ _ _ _ _).trans (by rw [wB_eq]; rfl)
  isplitl [H4]
  · unfold owns; iexists _; isplitr
    swap; · iexact H4
    ipureintro; exact (U.rk_A _ _ _ _ _ _ _ _ _ _ _ _ _ _ _ _ _ _ _ _ _ _ _ _ _ _ _ _ _ _ _ _ _ _ _ _ _ _).trans (by rw [wB_eq]; rfl)
  isplitl [H5]
  · unfold owns; iexists _; isplitr
    swap; · iexact H5
    ipureintro; exact (U.rn_A _ _ _ _ _ _ _ _ _ _ _ _ _ _ _ _ _ _ _ _ _ _ _ _ _ _ _ _ _ _ _ _ _ _ _ _ _ _).trans (by rw [wB_eq]; rfl)
  isplitl [H6]; · iexists _; iexact H6
  isplitl [H7]; · iexists _; iexact H7
  iexists _; iexact H8

set_option maxHeartbeats 2000000 in
/-- The body at a point of case B. -/
theorem sound_B (c : Dev nD) (t : Fin cfg0.N) (h0 : ¬t.val % 35 = 0) (h1 : ¬t.val % 35 = 34) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 35 := lt_of_lt_of_eq t.isLt (show cfg0.N = 35 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  have hz : t.val ≠ 0 := by omega
  rw [PhiS_castSucc m c t, PhiS_pos m c _ _ hz]
  iintro ⟨⟨⟨HS0, HS1, HS2, HS3, ⟨%xs4, %hd, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) _ _).2.2.2.2.2.2.2.2.2.2.2.2 _ _ _ _ Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e4, H4⟩, ⟨%e5, H5⟩, H6, H7, H8, HS0, ⟨%fT1, HS1⟩, ⟨%fT2, HS2⟩, ⟨%fT3, HS3⟩, HS4, ⟨%es5, HS5⟩⟩
  isplitl [HS0 HS1 HS2 HS3 HS4 HS5 Hg]
  · isplitl [HS0 HS1 HS2 HS3 HS4 HS5]
    · isplitl [HS0]
      · iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; isplitr
        swap
        · unfold owns; iexists _; isplitr
          swap; · iexact HS4
          ipureintro; rfl
        ipureintro; exact U.rc_B _ _ _ _ _ _ _ _ _ _ _ _ _ _ _ _ _ _ _ _ _ _ _ _ _ _ _ _ _ _ _ _ _ _ _ _ _ _ _ _ (wB m c) (wB_eq m c t) hd
      unfold owns; iexists _; isplitr
      swap; · iexact HS5
      ipureintro; exact (U.rm_B _ _ _ _ _ _ _ _ _ _ _ _ _ _ _ _ _ _ _ _ _ _ _ _ _ _ _ _ _ _ _ _ _ _ _ _ _ _ _ _).trans (by rw [wB_eq]; rfl)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (U.ry_B _ _ _ _ _ _ _ _ _ _ _ _ _ _ _ _ _ _ _ _ _ _ _ _ _ _ _ _ _ _ _ _ _ _ _ _ _ _ _ _).trans (by rw [wB_eq]; rfl)
  isplitl [H4]
  · unfold owns; iexists _; isplitr
    swap; · iexact H4
    ipureintro; exact (U.rk_B _ _ _ _ _ _ _ _ _ _ _ _ _ _ _ _ _ _ _ _ _ _ _ _ _ _ _ _ _ _ _ _ _ _ _ _ _ _ _ _).trans (by rw [wB_eq]; rfl)
  isplitl [H5]
  · unfold owns; iexists _; isplitr
    swap; · iexact H5
    ipureintro; exact (U.rn_B _ _ _ _ _ _ _ _ _ _ _ _ _ _ _ _ _ _ _ _ _ _ _ _ _ _ _ _ _ _ _ _ _ _ _ _ _ _ _ _).trans (by rw [wB_eq]; rfl)
  isplitl [H6]; · iexists _; iexact H6
  isplitl [H7]; · iexists _; iexact H7
  iexists _; iexact H8

set_option maxHeartbeats 2000000 in
/-- The body at a point of case C. -/
theorem sound_C (c : Dev nD) (t : Fin cfg0.N) (h0 : ¬t.val % 35 = 0) (h1 : t.val % 35 = 34) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 35 := lt_of_lt_of_eq t.isLt (show cfg0.N = 35 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [show (dats m 0 c).leavesExact 8 t = owns (c : Thread nD τ) (ms0_8 t) fullShare ((dats m 0 c).after 8 t) from by
    unfold Dat.leavesExact; rw [liveAt0_8_C t (fun h => h0 ((hcond0_0 t).mp h)) ((hcond0_1 t).mpr h1)], after0_8]
  have hz : t.val ≠ 0 := by omega
  rw [PhiS_castSucc m c t, PhiS_pos m c _ _ hz]
  iintro ⟨⟨⟨HS0, HS1, HS2, HS3, ⟨%xs4, %hd, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2.2.2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, ⟨%e4, H4⟩, ⟨%e5, H5⟩, ⟨%e6, H6⟩, ⟨%e7, H7⟩, ⟨%e8, H8⟩, HS0, ⟨%fT1, HS1⟩, ⟨%fT2, HS2⟩, ⟨%fT3, HS3⟩, HS4, ⟨%es5, HS5⟩⟩
  isplitl [HS0 HS1 HS2 HS3 HS4 HS5 Hg]
  · isplitl [HS0 HS1 HS2 HS3 HS4 HS5]
    · isplitl [HS0]
      · iexact HS0
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; isplitr
        swap
        · unfold owns; iexists _; isplitr
          swap; · iexact HS4
          ipureintro; rfl
        ipureintro; exact U.rc_C _ _ _ _ _ _ _ _ _ _ _ _ _ _ _ _ _ _ _ _ _ _ _ _ _ _ _ _ _ _ _ _ _ _ _ _ _ _ _ _ (wB m c) (wB_eq m c t) hd
      unfold owns; iexists _; isplitr
      swap; · iexact HS5
      ipureintro; exact (U.rm_C _ _ _ _ _ _ _ _ _ _ _ _ _ _ _ _ _ _ _ _ _ _ _ _ _ _ _ _ _ _ _ _ _ _ _ _ _ _ _ _ _).trans (by rw [wB_eq]; rfl)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact (U.ry_C _ _ _ _ _ _ _ _ _ _ _ _ _ _ _ _ _ _ _ _ _ _ _ _ _ _ _ _ _ _ _ _ _ _ _ _ _ _ _ _ _).trans (by rw [wB_eq]; rfl)
  isplitl [H4]
  · unfold owns; iexists _; isplitr
    swap; · iexact H4
    ipureintro; exact (U.rk_C _ _ _ _ _ _ _ _ _ _ _ _ _ _ _ _ _ _ _ _ _ _ _ _ _ _ _ _ _ _ _ _ _ _ _ _ _ _ _ _ _).trans (by rw [wB_eq]; rfl)
  isplitl [H5]
  · unfold owns; iexists _; isplitr
    swap; · iexact H5
    ipureintro; exact (U.rn_C _ _ _ _ _ _ _ _ _ _ _ _ _ _ _ _ _ _ _ _ _ _ _ _ _ _ _ _ _ _ _ _ _ _ _ _ _ _ _ _ _).trans (by rw [wB_eq]; rfl)
  isplitl [H6]
  · unfold owns; iexists _; isplitr
    swap; · iexact H6
    ipureintro; exact U.rb_C _ _ _ _ _ _ _ _ _ _ _ _ _ _ _ _ _ _ _ _ _ _ _ _ _ _ _ _ _ _ _ _ _ _ _ _ _ _ _ _ (wB m c) (wB_eq m c t) hd (by omega) _
  isplitl [H7]
  · unfold owns; iexists _; isplitr
    swap; · iexact H7
    ipureintro; exact U.rt_C _ _ _ _ _ _ _ _ _ _ _ _ _ _ _ _ _ _ _ _ _ _ _ _ _ _ _ _ _ _ _ _ _ _ _ _ _ _ _ _ _
  unfold owns; iexists _; isplitr
  swap; · iexact H8
  ipureintro; exact (U.rw_C _ _ _ _ _ _ _ _ _ _ _ _ _ _ _ _ _ _ _ _ _ _ _ _ _ _ _ _ _ _ _ _ _ _ _ _ _ _ _ _ _).trans (by rw [wB_eq, show (35 : ℕ) = t.val + 1 by omega]; rfl)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 35 = 0
  · exact sound_A m c t h0 (by omega)
  · by_cases h1 : t.val % 35 = 34
    · exact sound_C m c t h0 h1
    · exact sound_B m c t h0 h1

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, ⟨%d, %hd, HS4⟩, HS5⟩, Hg⟩
  isplitl [HS0 HS1 HS2 HS3 HS4 HS5]
  · isplitl [HS0]
    · iexists _; iexact HS0
    isplitl [HS1]
    · iexact HS1
    isplitl [HS2]
    · iexact HS2
    isplitl [HS3]
    · iexact HS3
    isplitl [HS4]
    · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 35 := N_0; omega)

set_option backward.isDefEq.respectTransparency.types false in
/-- The launch, with every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch: every final state has every array at what the proof data say and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Gen
-- ==== Proof.Arrays.lean ====
/- The kernel's arrays after the run, and its blocks of the arguments. -/
module

public import proofs.«01_k».proof.Proof.FrameV
public import Idealize.ShloMosaic.Lib.Pointwise

@[expose] public section

set_option maxRecDepth 16384

noncomputable section

namespace Cert.KernelIdeal.Gen

open Cert.KernelIdeal Idealize.ShloMosaic Idealize.ShloMosaic.TcCoe Idealize.SL.Sem Cert.KernelIdeal.U
open Idealize.ShloMosaic.Pipeline (Dat)

variable {F : FTy → Type} [FloatOps F]
variable (m : (ℓ : Loc nD τ sig) → Buf (Elt F) ℓ) (ρ : Dev nD → PrngReg)

/-- The last grid point. -/
def ptL : Fin cfg0.N := (⟨34, by decide⟩ : Fin grid0.N)

set_option maxHeartbeats 1000000 in
theorem arr6 (c : Dev nD) : (dats m 0 c).arrAt 6 cfg0.N = k0_pay1 (sbAll (hB m c) (wB m c)) := by
  refine (dats m 0 c).arrAt_eq_of_after_last 6 ptL (by decide +kernel) _ fun j => ?_
  rw [after0_6]
  generalize k0_pay1 (sbAll (hB m c) (wB m c)) = g
  rfl

theorem arr7 (c : Dev nD) : (dats m 0 c).arrAt 7 cfg0.N = fun _ => k0_pay2 (stM (hB m c)) := by
  refine (dats m 0 c).arrAt_eq_of_after_last 7 ptL (by decide +kernel) _ fun j => ?_
  rw [after0_7]
  generalize k0_pay2 (stM (hB m c)) = g
  rfl

theorem arr8 (c : Dev nD) : (dats m 0 c).arrAt 8 cfg0.N = fun _ => k0_pay3 (mB m c 35) := by
  refine (dats m 0 c).arrAt_eq_of_after_last 8 ptL (by decide +kernel) _ fun j => ?_
  rw [after0_8]
  generalize k0_pay3 (mB m c 35) = g
  rfl

/-- Two coordinates of one element. -/
theorem at_eq {s0 s1 : ℕ} {α : Type} {f g : (⟨2, ![s0, s1]⟩ : Shape).Idx → α} (h : f = g) (y : (⟨2, ![s0, s1]⟩ : Shape).Idx) (a : Fin s0) (b : Fin s1)
    (ha : (y 0).val = a.val) (hb : (y 1).val = b.val) : f y = g (ix2 a b) := by
  subst h
  congr 1
  funext k
  match k with
  | ⟨0, _⟩ => exact Fin.ext ha
  | ⟨1, _⟩ => exact Fin.ext hb

theorem ix4 : ∀ t : Fin cfg0.N, win0_4.index t 0 = t.val ∧ win0_4.index t 1 = 0 := (by decide +kernel : ∀ t : Fin grid0.N, win0_4.index t 0 = t.val ∧ win0_4.index t 1 = 0)
theorem ix5 : ∀ t : Fin cfg0.N, win0_5.index t 0 = 0 ∧ win0_5.index t 1 = t.val := (by decide +kernel : ∀ t : Fin grid0.N, win0_5.index t 0 = 0 ∧ win0_5.index t 1 = t.val)
theorem ix3' : ∀ t : Fin cfg0.N, win0_3.index t 0 = 0 ∧ win0_3.index t 1 = t.val := (by decide +kernel : ∀ t : Fin grid0.N, win0_3.index t 0 = 0 ∧ win0_3.index t 1 = t.val)
theorem ix2' : ∀ t : Fin cfg0.N, win0_2.index t 0 = t.val ∧ win0_2.index t 1 = 0 := (by decide +kernel : ∀ t : Fin grid0.N, win0_2.index t 0 = t.val ∧ win0_2.index t 1 = 0)

theorem arr4 (c : Dev nD) : (dats m 0 c).arrAt 4 cfg0.N = fun i : S8960x768.Idx =>
    kM (hB m c) (wB m c ((i 0).val / 256)) (ix2 ⟨(i 0).val % 256, Nat.mod_lt _ (by decide)⟩ (i 1)) := by
  refine (dats m 0 c).arrAt_eq_of_covers 4 _ (by decide +kernel) fun t hf y => ?_
  blk_simp
  rw [after0_4]
  have h0 : (y 0).val < 256 := (y 0).isLt
  have e := (ix4 t).1
  refine at_eq (congrArg (fun n => kM (hB m c) (wB m c n)) ?_) _ _ _ ?_ ?_
  · rw [e]; omega
  · show (y 0).val = (win0_4.index t 0 * 256 + (y 0).val) % 256
    rw [e]; omega
  · blk_simp
    rw [(ix4 t).2]
    omega

theorem arr5 (c : Dev nD) : (dats m 0 c).arrAt 5 cfg0.N = fun i : S1536x4480.Idx =>
    nM (hB m c) (wB m c ((i 1).val / 128)) (ix2 (i 0) ⟨(i 1).val % 128, Nat.mod_lt _ (by decide)⟩) := by
  refine (dats m 0 c).arrAt_eq_of_covers 5 _ (by decide +kernel) fun t hf y => ?_
  blk_simp
  rw [after0_5]
  have h0 : (y 1).val < 128 := (y 1).isLt
  have e := (ix5 t).2
  refine at_eq (congrArg (fun n => nM (hB m c) (wB m c n)) ?_) _ _ _ ?_ ?_
  · rw [e]; omega
  · blk_simp
    rw [(ix5 t).1]
    omega
  · show (y 1).val = (win0_5.index t 1 * 128 + (y 1).val) % 128
    rw [e]; omega

theorem arr3 (c : Dev nD) : (dats m 0 c).arrAt 3 cfg0.N = fun i : S768x8960.Idx =>
    yM (hB m c) (k0_pay4 (xB m c)) (wB m c ((i 1).val / 256)) (ix2 (i 0) ⟨(i 1).val % 256, Nat.mod_lt _ (by decide)⟩) := by
  refine (dats m 0 c).arrAt_eq_of_covers 3 _ (by decide +kernel) fun t hf y => ?_
  blk_simp
  rw [after0_3]
  have h0 : (y 1).val < 256 := (y 1).isLt
  have e := (ix3' t).2
  refine at_eq (congrArg (fun n => yM (hB m c) (k0_pay4 (xB m c)) (wB m c n)) ?_) _ _ _ ?_ ?_
  · rw [e]; omega
  · blk_simp
    rw [(ix3' t).1]
    omega
  · show (y 1).val = (win0_3.index t 1 * 256 + (y 1).val) % 256
    rw [e]; omega

theorem wB_apply (c : Dev nD) (n : ℕ) (hn : n < 35) (r : Fin 256) (j : Fin 1536) :
    wB m c n (ix2 r j) = m ((c : Thread nD τ).loc main_arg1) (ix2 ⟨256 * n + r.val, by omega⟩ j) := by
  have hN : n < cfg0.N := hn
  unfold wB
  rw [dif_pos hN]
  rw [← V_main_arg1 m c]
  refine congrArg (V m c main_arg1) (funext fun a => Fin.ext ?_)
  match a with
  | ⟨0, _⟩ =>
    refine (Pipeline.Window.rect_emb_val win0_2 (⟨n, hN⟩ : Fin grid0.N) (ix2 r j) 0).trans ?_
    rw [(ix2' ⟨n, hN⟩).1]; show n * 256 + r.val = 256 * n + r.val; omega
  | ⟨1, _⟩ =>
    refine (Pipeline.Window.rect_emb_val win0_2 (⟨n, hN⟩ : Fin grid0.N) (ix2 r j) 1).trans ?_
    rw [(ix2' ⟨n, hN⟩).2]; show 0 * 1536 + j.val = j.val; omega

theorem hB_apply (c : Dev nD) : (hB m c : Vec F S24 .f32) = (m ((c : Thread nD τ).loc main_arg2)) := by
  rw [← V_main_arg2 m c]
  unfold hB iblk
  funext k
  refine congrArg (V m c main_arg2) (funext fun a => Fin.ext ?_)
  match a with
  | ⟨0, _⟩ =>
    refine (Pipeline.Window.rect_emb_val win0_0 (pt0 : Fin grid0.N) k 0).trans ?_
    rw [show win0_0.index (pt0 : Fin grid0.N) 0 = 0 by decide +kernel]; show 0 * 24 + (k 0).val = (k 0).val; omega

end Cert.KernelIdeal.Gen
-- ==== Proof.Scales.lean ====
/- The kernel's scales and maxima over the extended reals. -/
module

public import proofs.«01_k».proof.Proof.Lanes
public import proofs.«01_k».proof.Proof.Maxima
public import proofs.«01_k».proof.Proof.Arrays

@[expose] public section

set_option maxRecDepth 16384

noncomputable section

namespace Cert.KernelIdeal.Gen

open Cert.KernelIdeal Idealize.ShloMosaic Idealize.ShloMosaic.TcCoe Idealize.SL.Sem Cert.KernelIdeal.U Cert.Q

variable (m : (ℓ : Loc nD τ sig) → Buf (Elt Ideal) ℓ)

/-- The weights. -/
abbrev aW (c : Dev nD) : S8960x1536.Idx → EReal := m ((c : Thread nD τ).loc main_arg1)
/-- The history. -/
abbrev aH (c : Dev nD) : S24.Idx → EReal := m ((c : Thread nD τ).loc main_arg2)

theorem hM_at (x : Vec Ideal S24 .f32) (k : Fin 24) : hM x k = x (ix1 k) := by
  unfold hM
  refine congrArg x (funext fun a => Fin.ext ?_)
  match a with
  | ⟨0, _⟩ => rfl

theorem stM_at (c : Dev nD) (j : S8x128.Idx) : U.stM (F := Ideal) (hB m c) j = sT (aH m c) := by
  unfold U.stM stU
  pointwise
  unfold sT
  refine congrArg (fun x => Ideal.div x _) (eq_of_forall_ge_iff fun b => ?_)
  rw [histMax_le, hmax_le, hB_apply]
  simp only [hM_at]

theorem st6M_at (c : Dev nD) (j : S8x128.Idx) : st6M (F := Ideal) (hB m c) j = sT (aH m c) * Ideal.ofBits .f32 0x40C00000#32 := by
  have h : st6M (F := Ideal) (hB m c) j = U.stM (F := Ideal) (hB m c) j * Ideal.ofBits .f32 0x40C00000#32 := rfl
  rw [h, stM_at]

theorem tile_at (A : FVec Ideal S16x1536 .f32) (g : Fin 2) (t : Fin 12) (s : Fin 8) (l : Fin 128) :
    tile A g t (ix2 s l) = A (ix2 ⟨8 * g.val + s.val, by omega⟩ ⟨128 * t.val + l.val, by omega⟩) := by
  unfold tile
  refine extractStridedSlice_apply _ _ _ _ _ fun b => ?_
  fin_cases b <;> rfl

theorem tileM_at (c : Dev nD) (n : ℕ) (hn : n < 35) (g : Fin 2) (t : Fin 12) (s : Fin 8) (l : Fin 128) :
    unitM (tile (aM (wB m c n)) g t) (ix2 s l) = bm (aW m c) ⟨16 * n + (8 * g.val + s.val), by omega⟩ ⟨8 * t.val + l.val / 16, by omega⟩ := by
  refine eq_of_forall_ge_iff fun b => ?_
  rw [unitM_le, bm_le]
  have e : ∀ (j i : Fin 16), wB m c n (ix2 ⟨16 * (8 * g.val + s.val) + i.val, by omega⟩ ⟨128 * t.val + (bl l j).val, by omega⟩)
      = aW m c (ix2 ⟨16 * (16 * n + (8 * g.val + s.val)) + i.val, by omega⟩ ⟨16 * (8 * t.val + l.val / 16) + j.val, by omega⟩) := by
    intro j i
    rw [wB_apply m c n hn]
    refine congrArg (aW m c) ?_
    refine congrArg₂ ix2 (Fin.ext ?_) (Fin.ext ?_)
    · show 256 * n + (16 * (8 * g.val + s.val) + i.val) = 16 * (16 * n + (8 * g.val + s.val)) + i.val
      omega
    · show 128 * t.val + (16 * (l.val / 16) + j.val) = 16 * (8 * t.val + l.val / 16) + j.val
      omega
  simp only [tile_at, aM]
  constructor
  · intro h i j
    have := (pay10_le _ _ _ _).mp (h j) i
    rw [e] at this
    exact this
  · intro h j
    refine (pay10_le _ _ _ _).mpr fun i => ?_
    rw [e]
    exact h i j

theorem unitSM_at (c : Dev nD) (n : ℕ) (hn : n < 35) (g : Fin 2) (t : Fin 12) (s : Fin 8) (l : Fin 128) :
    unitS (st6M (hB m c)) (tile (aM (wB m c n)) g t) (ix2 s l)
      = sB (aW m c) (aH m c) ⟨16 * n + (8 * g.val + s.val), by omega⟩ ⟨8 * t.val + l.val / 16, by omega⟩ := by
  rw [unitS_at, tileM_at m c n hn, st6M_at]
  rfl

theorem sbAll_at (x0 : Vec Ideal S24 .f32) (W : ℕ → Vec Ideal S256x1536 .bf16) (R : Fin 560) (C : Fin 96) :
    sbAll x0 W (ValueIdx.ix2 (n0 := 640) (n1 := 128) ⟨R.val, by omega⟩ ⟨C.val, by omega⟩)
      = compG (st6M x0) (tile (aM (W (R.val / 16))) ⟨R.val / 8 % 2, Nat.mod_lt _ (by decide)⟩) (ix2 ⟨R.val % 8, Nat.mod_lt _ (by decide)⟩ ⟨C.val, by omega⟩) := by
  unfold sbAll cM
  generalize compG (F := Ideal) (st6M x0) = G
  refine congrArg (G _) (funext fun a => ?_)
  match a with
  | ⟨0, _⟩ => rfl
  | ⟨1, _⟩ => rfl

theorem sb_at (c : Dev nD) (R : Fin 560) (C : Fin 96) :
    k0_pay1 (sbAll (hB m c) (wB m c)) (ix2 R C) = sB (aW m c) (aH m c) R C := by
  unfold k0_pay1
  dsimp only
  have hC : C.val / 8 < 12 := by omega
  refine (pay1_idx _ _).trans ((sbAll_at _ _ R C).trans ((compG_at _ _ _ _ hC).trans ?_))
  refine (unitSM_at m c _ (by omega) _ _ _ _).trans ?_
  refine congrArg₂ (sB (aW m c) (aH m c)) (Fin.ext ?_) (Fin.ext ?_)
  · show 16 * (R.val / 16) + (8 * (R.val / 8 % 2) + R.val % 8) = R.val
    omega
  · show 8 * (C.val / 8) + 16 * (C.val % 8) / 16 = C.val
    omega

theorem st_at (c : Dev nD) : (k0_pay2 (F := Ideal) (U.stM (hB m c)) : EReal) = sT (aH m c) := by
  rw [pay2_at, stM_at]

theorem mB_le (c : Dev nD) (n : ℕ) (hn : n ≤ 35) (r : Fin 8) (l : Fin 128) (b : EReal) :
    mB m c n (ix2 r l) ≤ b ↔ 0 ≤ b ∧ ∀ n' : ℕ, ∀ h : n' < n, ∀ (g : Fin 2) (t : Fin 12),
      bm (aW m c) ⟨16 * n' + (8 * g.val + r.val), by omega⟩ ⟨8 * t.val + l.val / 16, by omega⟩ ≤ b := by
  induction n with
  | zero =>
    have e : mB m c 0 (ix2 r l) = (0 : EReal) := by
      show (k0_pay5 (F := Ideal) : FVec Ideal S8x128 .f32) (ix2 r l) = 0
      pointwise [k0_pay5]
    rw [e]
    exact ⟨fun h => ⟨h, fun n' h => absurd h (Nat.not_lt_zero _)⟩, fun h => h.1⟩
  | succ n ih =>
    have e : mB m c (n + 1) = runM (mB m c n) (tile (aM (wB m c n))) := by
      show mM (mB m c n) (wB m c n) = _
      unfold mM
      rw [shapeCast_self]
    rw [e, runM_le, ih (by omega)]
    simp only [tileM_at m c n (by omega)]
    constructor
    · rintro ⟨⟨h0, h1⟩, h2⟩
      refine ⟨h0, fun n' h g t => ?_⟩
      by_cases hh : n' < n
      · exact h1 n' hh g t
      · obtain rfl : n' = n := by omega
        exact h2 g t
    · rintro ⟨h0, h1⟩
      exact ⟨⟨h0, fun n' h g t => h1 n' (by omega) g t⟩, fun g t => h1 n (by omega) g t⟩

theorem wa_at (c : Dev nD) : (k0_pay3 (F := Ideal) (mB m c 35) : EReal) = wmax (aW m c) := by
  refine eq_of_forall_ge_iff fun b => ?_
  rw [pay3_le, wmax_le]
  constructor
  · intro h R C
    have := ((mB_le m c 35 le_rfl ⟨R.val % 8, by omega⟩ ⟨16 * (C.val % 8), by omega⟩ b).mp (h _ _)).2 (R.val / 16) (by omega) ⟨R.val / 8 % 2, by omega⟩ ⟨C.val / 8, by omega⟩
    refine le_of_eq_of_le (congrArg₂ (bm (aW m c)) (Fin.ext ?_) (Fin.ext ?_)) this
    · show R.val = 16 * (R.val / 16) + (8 * (R.val / 8 % 2) + R.val % 8)
      omega
    · show C.val = 8 * (C.val / 8) + 16 * (C.val % 8) / 16
      omega
  · intro h r l
    exact (mB_le m c 35 le_rfl r l b).mpr ⟨(bm_nonneg _ 0 0).trans (h 0 0), fun n' _ g t => h _ _⟩

end Cert.KernelIdeal.Gen
-- ==== Proof.Ends.lean ====
/- The kernel's run: what its results hold, element by element. -/
module

public import proofs.«01_k».proof.Proof.Scales

@[expose] public section

set_option maxRecDepth 16384

noncomputable section

namespace Cert.KernelIdeal.Gen

open Cert.KernelIdeal Idealize.ShloMosaic Idealize.ShloMosaic.TcCoe Idealize.SL.Sem Cert.KernelIdeal.U Cert.Q

section Frame
variable {F : FTy → Type} [FloatOps F]
variable (m : (ℓ : Loc nD τ sig) → Buf (Elt F) ℓ) (ρ : Dev nD → PrngReg)

/-- The kernel runs to the end; its results hold the arrays of the proof data, its arguments are unchanged, the counters zero. -/
theorem ends : θ_run defs (onTc (τ := τ) (main (F := F))) ⟨m, fun _ => 0, ρ⟩ (fun r => (∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_v1_2) = (dats m 0 c).arrAt 5 cfg0.N
      ∧ r.2.mem ((c.tc : Thread nD τ).loc main_v1_3) = (dats m 0 c).arrAt 6 cfg0.N
      ∧ r.2.mem ((c.tc : Thread nD τ).loc main_v1_4) = (dats m 0 c).arrAt 7 cfg0.N
      ∧ r.2.mem ((c.tc : Thread nD τ).loc main_v1_5) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3, (h.1 c).1 4, (h.1 c).1 5, (h.1 c).1 6, (h.1 c).1 7, (h.1 c).1 8,
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).1 0).trans (((dats m 0 c).arrAt_in 0 rfl _).trans ((A_eq m c 0).trans (V_main_arg2 m c)))⟩, h.2⟩) (run_main_quiescent m ρ)

/-- The kernel runs to the end, its arguments unchanged and the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2.2.2.2, h.2⟩) (ends m ρ)

end Frame

end Cert.KernelIdeal.Gen
-- ==== Proof.KFrame.lean ====
/- The kernel as printed is the idealized program's own text: its frame is that program's. -/
module

public import proofs.«01_k».proof.Proof.Gen.Kernel
public import proofs.«01_k».proof.Proof.Ends

@[expose] public section

set_option maxRecDepth 100000

noncomputable section

namespace Cert.Kernel.Gen

open Cert.Kernel Idealize.ShloMosaic Idealize.ShloMosaic.TcCoe Idealize.SL.Sem

/-- The kernel's frame, stated. -/
def FrameK (F : FTy → Type) [FloatOps F] : Prop :=
  ∀ (m : (ℓ : Loc Cert.Kernel.nD Cert.Kernel.τ Cert.Kernel.sig) → Buf (Elt F) ℓ) (ρ : Dev Cert.Kernel.nD → PrngReg),
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The idealized kernel's frame, stated. -/
def FrameI (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg),
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The two programs are one text, so the two statements are one. -/
theorem frame_eq (F : FTy → Type) [FloatOps F] : FrameK F = FrameI F := by sl_kernel_rfl

variable {F : FTy → Type} [FloatOps F]

/-- The kernel runs to the end, its arguments unchanged and the counters zero. -/
theorem frame : FrameK F :=
  (frame_eq F).mpr fun m ρ => Cert.KernelIdeal.Gen.frame m ρ

end Cert.Kernel.Gen
-- ==== Proof.RefScales.lean ====
/- The reference's scales and maxima over the extended reals. -/
module

public import proofs.«01_k».proof.Proof.Gen.ReferenceIdeal.Run
public import proofs.«01_k».proof.Proof.Maxima

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Q

theorem c_ninf : Ideal.ofBits .f32 0xFF800000#32 = (⊥ : EReal) := by
  simp [Ideal.ofBits, Ideal.ieee]

/-- The block maxima. -/
theorem bm_ref (W : FVec Ideal S8960x1536 .bf16) (R : Fin 560) (C : Fin 96) :
    Host.reduce FloatOps.maximumf (shapeCast _ (Host.absf (extf .f32 W bitsLt_bf16_f32)) shapeCasts_S8960x1536_S560x16x96x16) (constant S_ .f32 0xFF800000#32) reducesTo_S560x16x96x16_S560x96_d1_3 h_S_ (ix2 R C)
      = bm W R C := by
  pointwise
  refine eq_of_forall_ge_iff fun b => ?_
  rw [Finset.fold_max_le, bm_le, c_ninf]
  simp only [bot_le, true_and, Finset.mem_filter, Finset.mem_univ]
  have hd : ∀ x : S560x16x96x16.Idx, reducesTo_S560x16x96x16_S560x96_d1_3.drop x = ix2 (x 0) (x 2) := by
    intro x
    funext a
    match a with
    | ⟨0, _⟩ => rfl
    | ⟨1, _⟩ => rfl
  simp only [hd]
  have he : ∀ i j : Fin 16, (ix2 ⟨16 * R.val + i.val, by omega⟩ ⟨16 * C.val + j.val, by omega⟩ : S8960x1536.Idx) = ix2 ⟨R.val * 16 + i.val, by omega⟩ ⟨C.val * 16 + j.val, by omega⟩ := fun i j =>
    congrArg₂ ix2 (Fin.ext (by show 16 * R.val + i.val = R.val * 16 + i.val; omega)) (Fin.ext (by show 16 * C.val + j.val = C.val * 16 + j.val; omega))
  simp only [he]
  constructor
  · intro h i j
    exact h (ix4 R i C j) rfl
  · intro h x hx
    obtain rfl : x 0 = R := congrFun hx 0
    obtain rfl : x 2 = C := congrFun hx 1
    exact h (x 1) (x 3)

/-- The tensor scale. -/
theorem st_ref (H : FVec Ideal S24 .f32) (j : S_.Idx) :
    Host.divf (Host.reduce FloatOps.maximumf H (constant S_ .f32 0xFF800000#32) reducesTo_S24_S_d0 h_S_) (constant S_ .f32 0x45280000#32) j = sT H := by
  pointwise
  rw [c_ninf]; rfl

/-- The largest magnitude. -/
theorem wa_ref (W : FVec Ideal S8960x1536 .bf16) (j : S1.Idx) :
    shapeCast S1 (Host.reduce FloatOps.maximumf (Host.reduce FloatOps.maximumf (shapeCast _ (Host.absf (extf .f32 W bitsLt_bf16_f32)) shapeCasts_S8960x1536_S560x16x96x16) (constant S_ .f32 0xFF800000#32) reducesTo_S560x16x96x16_S560x96_d1_3 h_S_) (constant S_ .f32 0xFF800000#32) reducesTo_S560x96_S_d0_1 h_S_) shapeCasts_S_S1 j = wmax W := by
  have h := bm_ref W
  generalize Host.reduce FloatOps.maximumf (shapeCast _ (Host.absf (extf .f32 W bitsLt_bf16_f32)) shapeCasts_S8960x1536_S560x16x96x16) (constant S_ .f32 0xFF800000#32) reducesTo_S560x16x96x16_S560x96_d1_3 h_S_ = B at h ⊢
  pointwise
  simp only [h, c_ninf]; rfl

/-- The block scales. -/
theorem sb_ref (W : FVec Ideal S8960x1536 .bf16) (H : FVec Ideal S24 .f32) (R : Fin 560) (C : Fin 96) :
    Host.convertf .fp8e4m3 (minimumf (Host.divf (Host.reduce FloatOps.maximumf (shapeCast _ (Host.absf (extf .f32 W bitsLt_bf16_f32)) shapeCasts_S8960x1536_S560x16x96x16) (constant S_ .f32 0xFF800000#32) reducesTo_S560x16x96x16_S560x96_d1_3 h_S_) (broadcastInDim S560x96 ![] bcast_S_S560x96 (mulf (Host.divf (Host.reduce FloatOps.maximumf H (constant S_ .f32 0xFF800000#32) reducesTo_S24_S_d0 h_S_) (constant S_ .f32 0x45280000#32)) (constant S_ .f32 0x40C00000#32)))) (broadcastInDim S560x96 ![] bcast_S_S560x96 (constant S_ .f32 0x43E00000#32))) (ix2 R C)
      = sB W H R C := by
  have h1 := bm_ref W R C
  have h2 := st_ref H
  generalize Host.reduce FloatOps.maximumf (shapeCast _ (Host.absf (extf .f32 W bitsLt_bf16_f32)) shapeCasts_S8960x1536_S560x16x96x16) (constant S_ .f32 0xFF800000#32) reducesTo_S560x16x96x16_S560x96_d1_3 h_S_ = B at h1 ⊢
  generalize Host.divf (Host.reduce FloatOps.maximumf H (constant S_ .f32 0xFF800000#32) reducesTo_S24_S_d0 h_S_) (constant S_ .f32 0x45280000#32) = T at h2 ⊢
  pointwise
  rw [h1, h2]; rfl

end Cert.ReferenceIdeal.Value
-- ==== Proof.Scalar.lean ====
/- One element's quantisation over the extended reals: the thresholds on the quotient moved by 2^-126, the rounding
   formulas on the quotient itself, and their agreement where 2^-126 crosses no boundary. -/
module

public import Idealize.ShloMosaic.Lib.Pointwise
public import Idealize.ShloMosaic.Lib.IdealHost

@[expose] public section

noncomputable section

namespace Cert.Q

open Idealize.ShloMosaic

/-- The bit that is set. -/
theorem one_ne_zero1 : (1#1 : BitVec 1) ≠ 0#1 := by decide

/-- The magnitude as the larger of the value and its negation. -/
abbrev mag (v : EReal) : EReal := max v (-v)

/-- The real 2^-126. -/
def tau : ℝ := 1 / 2 ^ 126

/-- The constants that the two programs print. -/
theorem c_tiny : Ideal.ofBits .f32 0x00800000#32 = (tau : EReal) := by
  rw [show tau = 1 / 2 ^ 126 from rfl]
  simp [Ideal.ofBits, Ideal.ieee, -EReal.coe_mul, -EReal.coe_neg]; norm_num
theorem c_quarter : Ideal.ofBits .f32 0x3E800000#32 = (((1 : ℝ) / 4 : ℝ) : EReal) := by
  simp [Ideal.ofBits, Ideal.ieee, -EReal.coe_mul, -EReal.coe_neg]; norm_num
theorem c_half : Ideal.ofBits .f32 0x3F000000#32 = (((1 : ℝ) / 2 : ℝ) : EReal) := by
  simp [Ideal.ofBits, Ideal.ieee, -EReal.coe_mul, -EReal.coe_neg]; norm_num
theorem c_threeq : Ideal.ofBits .f32 0x3F400000#32 = (((3 : ℝ) / 4 : ℝ) : EReal) := by
  simp [Ideal.ofBits, Ideal.ieee, -EReal.coe_mul, -EReal.coe_neg]; norm_num
theorem c_one : Ideal.ofBits .f32 0x3F800000#32 = ((1 : ℝ) : EReal) := by
  simp [Ideal.ofBits, Ideal.ieee, -EReal.coe_mul, -EReal.coe_neg]; norm_num
theorem c_fiveq : Ideal.ofBits .f32 0x3FA00000#32 = (((5 : ℝ) / 4 : ℝ) : EReal) := by
  simp [Ideal.ofBits, Ideal.ieee, -EReal.coe_mul, -EReal.coe_neg]; norm_num
theorem c_threeh : Ideal.ofBits .f32 0x3FC00000#32 = (((3 : ℝ) / 2 : ℝ) : EReal) := by
  simp [Ideal.ofBits, Ideal.ieee, -EReal.coe_mul, -EReal.coe_neg]; norm_num
theorem c_sevenq : Ideal.ofBits .f32 0x3FE00000#32 = (((7 : ℝ) / 4 : ℝ) : EReal) := by
  simp [Ideal.ofBits, Ideal.ieee, -EReal.coe_mul, -EReal.coe_neg]; norm_num
theorem c_two : Ideal.ofBits .f32 0x40000000#32 = ((2 : ℝ) : EReal) := by
  simp [Ideal.ofBits, Ideal.ieee, -EReal.coe_mul, -EReal.coe_neg]; norm_num
theorem c_fiveh : Ideal.ofBits .f32 0x40200000#32 = (((5 : ℝ) / 2 : ℝ) : EReal) := by
  simp [Ideal.ofBits, Ideal.ieee, -EReal.coe_mul, -EReal.coe_neg]; norm_num
theorem c_three : Ideal.ofBits .f32 0x40400000#32 = ((3 : ℝ) : EReal) := by
  simp [Ideal.ofBits, Ideal.ieee, -EReal.coe_mul, -EReal.coe_neg]; norm_num
theorem c_sevenh : Ideal.ofBits .f32 0x40600000#32 = (((7 : ℝ) / 2 : ℝ) : EReal) := by
  simp [Ideal.ofBits, Ideal.ieee, -EReal.coe_mul, -EReal.coe_neg]; norm_num
theorem c_four : Ideal.ofBits .f32 0x40800000#32 = ((4 : ℝ) : EReal) := by
  simp [Ideal.ofBits, Ideal.ieee, -EReal.coe_mul, -EReal.coe_neg]; norm_num
theorem c_five : Ideal.ofBits .f32 0x40A00000#32 = ((5 : ℝ) : EReal) := by
  simp [Ideal.ofBits, Ideal.ieee, -EReal.coe_mul, -EReal.coe_neg]; norm_num
theorem c_six : Ideal.ofBits .f32 0x40C00000#32 = ((6 : ℝ) : EReal) := by
  simp [Ideal.ofBits, Ideal.ieee, -EReal.coe_mul, -EReal.coe_neg]; norm_num
theorem c_nsix : Ideal.ofBits .f32 0xC0C00000#32 = ((-6 : ℝ) : EReal) := by
  simp [Ideal.ofBits, Ideal.ieee, -EReal.coe_mul, -EReal.coe_neg]; norm_num

theorem c_nquarter : Ideal.ofBits .f32 0xBE800000#32 = ((-(1 / 4) : ℝ) : EReal) := by
  simp [Ideal.ofBits, Ideal.ieee, -EReal.coe_mul, -EReal.coe_neg]; norm_num
theorem c_nthreeq : Ideal.ofBits .f32 0xBF400000#32 = ((-(3 / 4) : ℝ) : EReal) := by
  simp [Ideal.ofBits, Ideal.ieee, -EReal.coe_mul, -EReal.coe_neg]; norm_num
theorem c_nfiveq : Ideal.ofBits .f32 0xBFA00000#32 = ((-(5 / 4) : ℝ) : EReal) := by
  simp [Ideal.ofBits, Ideal.ieee, -EReal.coe_mul, -EReal.coe_neg]; norm_num
theorem c_nsevenq : Ideal.ofBits .f32 0xBFE00000#32 = ((-(7 / 4) : ℝ) : EReal) := by
  simp [Ideal.ofBits, Ideal.ieee, -EReal.coe_mul, -EReal.coe_neg]; norm_num
theorem c_nfiveh : Ideal.ofBits .f32 0xC0200000#32 = ((-(5 / 2) : ℝ) : EReal) := by
  simp [Ideal.ofBits, Ideal.ieee, -EReal.coe_mul, -EReal.coe_neg]; norm_num
theorem c_nsevenh : Ideal.ofBits .f32 0xC0600000#32 = ((-(7 / 2) : ℝ) : EReal) := by
  simp [Ideal.ofBits, Ideal.ieee, -EReal.coe_mul, -EReal.coe_neg]; norm_num
theorem c_nfive : Ideal.ofBits .f32 0xC0A00000#32 = ((-5 : ℝ) : EReal) := by
  simp [Ideal.ofBits, Ideal.ieee, -EReal.coe_mul, -EReal.coe_neg]; norm_num

/-! ## The two quantisers, as the two programs write them -/

/-- The kernel's quotient, moved by 2^-126 and clipped. -/
def kclip (x : EReal) : EReal :=
  min (Ideal.ofBits .f32 0x40C00000#32) (max (Ideal.ofBits .f32 0xC0C00000#32) (x + Ideal.ofBits .f32 0x00800000#32))

/-- The reference's quotient, clipped. -/
def rclip (x : EReal) : EReal :=
  min (Ideal.ofBits .f32 0x40C00000#32) (max (Ideal.ofBits .f32 0xC0C00000#32) x)

/-- One of two by a bit. -/
def sel {α : Type} (b : BitVec 1) (x y : α) : α := if b = 1 then x else y

/-- The kernel's level (0 to 7) of a magnitude. -/
def klev (a : EReal) : BitVec 32 :=
  sel (Ideal.cmp .ogt a (Ideal.ofBits .f32 0x40A00000#32)) 7#32 <|
  sel (Ideal.cmp .oge a (Ideal.ofBits .f32 0x40600000#32)) 6#32 <|
  sel (Ideal.cmp .ogt a (Ideal.ofBits .f32 0x40200000#32)) 5#32 <|
  sel (Ideal.cmp .oge a (Ideal.ofBits .f32 0x3FE00000#32)) 4#32 <|
  sel (Ideal.cmp .ogt a (Ideal.ofBits .f32 0x3FA00000#32)) 3#32 <|
  sel (Ideal.cmp .oge a (Ideal.ofBits .f32 0x3F400000#32)) 2#32 <|
  sel (Ideal.cmp .ogt a (Ideal.ofBits .f32 0x3E800000#32)) 1#32 0#32

/-- The kernel's value of a magnitude. -/
def kmag (a : EReal) : EReal :=
  sel (Ideal.cmp .ogt a (Ideal.ofBits .f32 0x40A00000#32)) (Ideal.ofBits .f32 0x40C00000#32) <|
  sel (Ideal.cmp .oge a (Ideal.ofBits .f32 0x40600000#32)) (Ideal.ofBits .f32 0x40800000#32) <|
  sel (Ideal.cmp .ogt a (Ideal.ofBits .f32 0x40200000#32)) (Ideal.ofBits .f32 0x40400000#32) <|
  sel (Ideal.cmp .oge a (Ideal.ofBits .f32 0x3FE00000#32)) (Ideal.ofBits .f32 0x40000000#32) <|
  sel (Ideal.cmp .ogt a (Ideal.ofBits .f32 0x3FA00000#32)) (Ideal.ofBits .f32 0x3FC00000#32) <|
  sel (Ideal.cmp .oge a (Ideal.ofBits .f32 0x3F400000#32)) (Ideal.ofBits .f32 0x3F800000#32) <|
  sel (Ideal.cmp .ogt a (Ideal.ofBits .f32 0x3E800000#32)) (Ideal.ofBits .f32 0x3F000000#32) (Ideal.ofBits .f32 0x00000000#32)

/-- The kernel's code of a clipped quotient. -/
def kcode (v : EReal) : BitVec 32 :=
  sel (Ideal.cmp .olt v (Ideal.ofBits .f32 0x00000000#32)) (klev (mag v) ||| 8#32) (klev (mag v))

/-- The kernel's value of a clipped quotient. -/
def kval (v : EReal) : EReal :=
  sel (Ideal.cmp .olt v (Ideal.ofBits .f32 0x00000000#32)) (Ideal.ofBits .f32 0x00000000#32 - kmag (mag v)) (kmag (mag v))

/-- The reference's rounded magnitude. -/
def rq (a : EReal) : EReal :=
  sel (Ideal.cmp .olt a (Ideal.ofBits .f32 0x40000000#32))
    (Ideal.div (Ideal.liftRound Ideal.roundHalfEven (Ideal.ofBits .f32 0x40000000#32 * a)) (Ideal.ofBits .f32 0x40000000#32)) <|
  sel (Ideal.cmp .olt a (Ideal.ofBits .f32 0x40800000#32))
    (Ideal.liftRound Ideal.roundHalfEven a)
    (Ideal.ofBits .f32 0x40000000#32 * Ideal.liftRound Ideal.roundHalfEven (Ideal.div a (Ideal.ofBits .f32 0x40000000#32)))

/-- The reference's level of a rounded magnitude. -/
def ridx (q : EReal) : BitVec 32 :=
  Ideal.fptosi 32 <|
  sel (Ideal.cmp .olt q (Ideal.ofBits .f32 0x40000000#32)) (Ideal.ofBits .f32 0x40000000#32 * q) <|
  sel (Ideal.cmp .olt q (Ideal.ofBits .f32 0x40800000#32)) (q + Ideal.ofBits .f32 0x40000000#32)
    (Ideal.div q (Ideal.ofBits .f32 0x40000000#32) + Ideal.ofBits .f32 0x40800000#32)

/-- The reference's code of a clipped quotient. -/
def rcode (v : EReal) : BitVec 32 :=
  ((Ideal.cmp .olt v (Ideal.ofBits .f32 0x00000000#32)).setWidth 32 <<< 3) ||| ridx (rq (mag v))

/-- The reference's value of a clipped quotient. -/
def rval (v : EReal) : EReal :=
  sel (Ideal.cmp .olt v (Ideal.ofBits .f32 0x00000000#32)) (-(rq (mag v))) (rq (mag v))

/-- A number and the number moved up by 2^-126 are on one side of a boundary, which is on the lower side. -/
def Upto (x : EReal) (b : ℝ) : Prop := x + (tau : EReal) ≤ (b : EReal) ∨ (b : EReal) < x

/-- A number and the number moved up by 2^-126 are on one side of a boundary, which is on the upper side. -/
def Below (x : EReal) (b : ℝ) : Prop := x + (tau : EReal) < (b : EReal) ∨ (b : EReal) ≤ x

/-- A quotient that 2^-126 does not move over a boundary. -/
structure Clear (x : EReal) : Prop where
  z : Below x 0
  u1 : Upto x (1 / 4)
  u3 : Upto x (5 / 4)
  u5 : Upto x (5 / 2)
  u7 : Upto x 5
  n2 : Upto x (-(3 / 4))
  n4 : Upto x (-(7 / 4))
  n6 : Upto x (-(7 / 2))
  u2 : Below x (3 / 4)
  u4 : Below x (7 / 4)
  u6 : Below x (7 / 2)
  n1 : Below x (-(1 / 4))
  n3 : Below x (-(5 / 4))
  n5 : Below x (-(5 / 2))
  n7 : Below x (-5)

/-! ## The levels by intervals -/

theorem sel_ogt (a b : EReal) {α : Type} (x y : α) : sel (Ideal.cmp .ogt a b) x y = if b < a then x else y := by
  by_cases h : b < a <;> simp [sel, Ideal.cmp, h]
theorem sel_oge (a b : EReal) {α : Type} (x y : α) : sel (Ideal.cmp .oge a b) x y = if b ≤ a then x else y := by
  by_cases h : b ≤ a <;> simp [sel, Ideal.cmp, h]
theorem sel_olt (a b : EReal) {α : Type} (x y : α) : sel (Ideal.cmp .olt a b) x y = if a < b then x else y := by
  by_cases h : a < b <;> simp [sel, Ideal.cmp, h]

theorem coe_mag (r : ℝ) : mag (r : EReal) = ((|r| : ℝ) : EReal) := by
  rw [mag, ← EReal.coe_neg, ← EReal.coe_strictMono.monotone.map_max]; rfl

theorem cmin (a b : ℝ) : min (a : EReal) (b : EReal) = ((min a b : ℝ) : EReal) := (EReal.coe_strictMono.monotone.map_min).symm
theorem cmax (a b : ℝ) : max (a : EReal) (b : EReal) = ((max a b : ℝ) : EReal) := (EReal.coe_strictMono.monotone.map_max).symm

/-- A magnitude is in the interval of level `n`, whose value is `q`; a boundary belongs to the even level. -/
def Lev (a : ℝ) (n : BitVec 32) (q : ℝ) : Prop :=
  (a ≤ 1/4 ∧ n = 0#32 ∧ q = 0) ∨ (1/4 < a ∧ a < 3/4 ∧ n = 1#32 ∧ q = 1/2) ∨ (3/4 ≤ a ∧ a ≤ 5/4 ∧ n = 2#32 ∧ q = 1) ∨
  (5/4 < a ∧ a < 7/4 ∧ n = 3#32 ∧ q = 3/2) ∨ (7/4 ≤ a ∧ a ≤ 5/2 ∧ n = 4#32 ∧ q = 2) ∨ (5/2 < a ∧ a < 7/2 ∧ n = 5#32 ∧ q = 3) ∨
  (7/2 ≤ a ∧ a ≤ 5 ∧ n = 6#32 ∧ q = 4) ∨ (5 < a ∧ n = 7#32 ∧ q = 6)

theorem klev_of_lev {a : ℝ} {n : BitVec 32} {q : ℝ} (h : Lev a n q) : klev (a : EReal) = n ∧ kmag (a : EReal) = (q : EReal) := by
  simp only [klev, kmag, sel_ogt, sel_oge, c_quarter, c_half, c_threeq, c_one, c_fiveq, c_threeh, c_sevenq, c_two, c_fiveh, c_three,
    c_sevenh, c_four, c_five, c_six, EReal.coe_lt_coe_iff, EReal.coe_le_coe_iff, Ideal.ofBits_zero_f32]
  rcases h with ⟨h, rfl, rfl⟩ | ⟨h, h', rfl, rfl⟩ | ⟨h, h', rfl, rfl⟩ | ⟨h, h', rfl, rfl⟩ | ⟨h, h', rfl, rfl⟩ | ⟨h, h', rfl, rfl⟩ |
    ⟨h, h', rfl, rfl⟩ | ⟨h, rfl, rfl⟩
  · rw [if_neg (by linarith), if_neg (by linarith), if_neg (by linarith), if_neg (by linarith), if_neg (by linarith), if_neg (by linarith),
      if_neg (by linarith), if_neg (by linarith), if_neg (by linarith), if_neg (by linarith), if_neg (by linarith), if_neg (by linarith),
      if_neg (by linarith), if_neg (by linarith)]; simp
  · rw [if_neg (by linarith), if_neg (by linarith), if_neg (by linarith), if_neg (by linarith), if_neg (by linarith), if_neg (by linarith),
      if_pos (by linarith), if_neg (by linarith), if_neg (by linarith), if_neg (by linarith), if_neg (by linarith), if_neg (by linarith),
      if_neg (by linarith), if_pos (by linarith)]; simp
  · rw [if_neg (by linarith), if_neg (by linarith), if_neg (by linarith), if_neg (by linarith), if_neg (by linarith), if_pos (by linarith),
      if_neg (by linarith), if_neg (by linarith), if_neg (by linarith), if_neg (by linarith), if_neg (by linarith), if_pos (by linarith)]; simp
  · rw [if_neg (by linarith), if_neg (by linarith), if_neg (by linarith), if_neg (by linarith), if_pos (by linarith),
      if_neg (by linarith), if_neg (by linarith), if_neg (by linarith), if_neg (by linarith), if_pos (by linarith)]; simp
  · rw [if_neg (by linarith), if_neg (by linarith), if_neg (by linarith), if_pos (by linarith),
      if_neg (by linarith), if_neg (by linarith), if_neg (by linarith), if_pos (by linarith)]; simp
  · rw [if_neg (by linarith), if_neg (by linarith), if_pos (by linarith),
      if_neg (by linarith), if_neg (by linarith), if_pos (by linarith)]; simp
  · rw [if_neg (by linarith), if_pos (by linarith), if_neg (by linarith), if_pos (by linarith)]; simp
  · rw [if_pos (by linarith), if_pos (by linarith)]; simp

/-- Rounding to the nearest integer, inside its neighbourhood. -/
theorem rhe {x : ℝ} (k : ℤ) (h1 : (k : ℝ) - 1 / 2 < x) (h2 : x < k + 1 / 2) : Ideal.roundHalfEven x = k := by
  unfold Ideal.roundHalfEven
  rcases le_or_gt (k : ℝ) x with h | h
  · have hf : ⌊x⌋ = k := Int.floor_eq_iff.mpr ⟨h, by linarith⟩
    simp only [hf]
    rw [if_pos (by linarith)]
  · have hf : ⌊x⌋ = k - 1 := Int.floor_eq_iff.mpr ⟨by push_cast; linarith, by push_cast; linarith⟩
    simp only [hf]
    rw [if_neg (by push_cast; linarith), if_pos (by push_cast; linarith)]
    ring

/-- Rounding to an even integer, on its neighbourhood with both ends. -/
theorem rhe_even {x : ℝ} (k : ℤ) (hk : Even k) (h1 : (k : ℝ) - 1 / 2 ≤ x) (h2 : x ≤ k + 1 / 2) : Ideal.roundHalfEven x = k := by
  rcases lt_or_eq_of_le h1 with h1 | h1
  · rcases lt_or_eq_of_le h2 with h2 | h2
    · exact rhe k h1 h2
    · have hf : ⌊x⌋ = k := Int.floor_eq_iff.mpr ⟨by linarith, by linarith⟩
      unfold Ideal.roundHalfEven
      simp only [hf]
      rw [if_neg (by linarith), if_neg (by linarith), if_pos hk]
  · have hf : ⌊x⌋ = k - 1 := Int.floor_eq_iff.mpr ⟨by push_cast; linarith, by push_cast; linarith⟩
    unfold Ideal.roundHalfEven
    simp only [hf]
    rw [if_neg (by push_cast; linarith), if_neg (by push_cast; linarith), if_neg (by
      rw [Int.not_even_iff_odd]; exact hk.sub_odd odd_one)]
    ring

theorem lr {x : ℝ} (k : ℤ) (h1 : (k : ℝ) - 1 / 2 < x) (h2 : x < k + 1 / 2) :
    Ideal.liftRound Ideal.roundHalfEven (x : EReal) = ((k : ℝ) : EReal) := by
  rw [Ideal.liftRound_coe, rhe k h1 h2]

theorem lre {x : ℝ} (k : ℤ) (hk : Even k) (h1 : (k : ℝ) - 1 / 2 ≤ x) (h2 : x ≤ k + 1 / 2) :
    Ideal.liftRound Ideal.roundHalfEven (x : EReal) = ((k : ℝ) : EReal) := by
  rw [Ideal.liftRound_coe, rhe_even k hk h1 h2]

theorem div2 (x : ℝ) : Ideal.div (x : EReal) ((2 : ℝ) : EReal) = ((x / 2 : ℝ) : EReal) := by
  rw [Ideal.div_coe (by norm_num), ← EReal.coe_mul]; congr 1; ring

theorem rq_of_lev {a : ℝ} (ha : 0 ≤ a) (hb : a ≤ 6) {n : BitVec 32} {q : ℝ} (h : Lev a n q) : rq (a : EReal) = (q : EReal) := by
  simp only [rq, sel_olt, c_two, c_four, EReal.coe_lt_coe_iff, div2, ← EReal.coe_mul]
  rcases h with ⟨h, rfl, rfl⟩ | ⟨h, h', rfl, rfl⟩ | ⟨h, h', rfl, rfl⟩ | ⟨h, h', rfl, rfl⟩ | ⟨h, h', rfl, rfl⟩ | ⟨h, h', rfl, rfl⟩ |
    ⟨h, h', rfl, rfl⟩ | ⟨h, rfl, rfl⟩
  · rw [if_pos (by linarith), lre 0 (by decide) (by push_cast; linarith) (by push_cast; linarith), div2]; norm_num
  · rw [if_pos (by linarith), lr 1 (by push_cast; linarith) (by push_cast; linarith), div2]; norm_num
  · rw [if_pos (by linarith), lre 2 (by decide) (by push_cast; linarith) (by push_cast; linarith), div2]; norm_num
  · rw [if_pos (by linarith), lr 3 (by push_cast; linarith) (by push_cast; linarith), div2]; norm_num
  · by_cases h2 : a < 2
    · rw [if_pos h2, lre 4 (by decide) (by push_cast; linarith) (by push_cast; linarith), div2]; norm_num
    · rw [if_neg h2, if_pos (by linarith), lre 2 (by decide) (by push_cast; linarith) (by push_cast; linarith)]; norm_num
  · rw [if_neg (by linarith), if_pos (by linarith), lr 3 (by push_cast; linarith) (by push_cast; linarith)]; norm_num
  · by_cases h2 : a < 4
    · rw [if_neg (by linarith), if_pos h2, lre 4 (by decide) (by push_cast; linarith) (by push_cast; linarith)]; norm_num
    · rw [if_neg (by linarith), if_neg h2, lre 2 (by decide) (by push_cast; linarith) (by push_cast; linarith), ← EReal.coe_mul]; norm_num
  · rw [if_neg (by linarith), if_neg (by linarith), lr 3 (by push_cast; linarith) (by push_cast; linarith), ← EReal.coe_mul]; norm_num

theorem fpt (k : ℤ) (h0 : 0 ≤ k) (h1 : k < 8) : Ideal.fptosi 32 ((k : ℝ) : EReal) = BitVec.ofInt 32 k := by
  rw [Ideal.fptosi, Ideal.toIntClamped_coe, if_pos (by exact_mod_cast h0), Int.floor_intCast]
  congr 1
  norm_num
  omega

theorem ridx_of_lev {a : ℝ} {n : BitVec 32} {q : ℝ} (h : Lev a n q) : ridx (q : EReal) = n := by
  simp only [ridx, sel_olt, c_two, c_four, EReal.coe_lt_coe_iff, div2, ← EReal.coe_mul, ← EReal.coe_add]
  rcases h with ⟨h, rfl, rfl⟩ | ⟨h, h', rfl, rfl⟩ | ⟨h, h', rfl, rfl⟩ | ⟨h, h', rfl, rfl⟩ | ⟨h, h', rfl, rfl⟩ | ⟨h, h', rfl, rfl⟩ |
    ⟨h, h', rfl, rfl⟩ | ⟨h, rfl, rfl⟩
  · rw [if_pos (by norm_num), show (2 * 0 : ℝ) = ((0 : ℤ) : ℝ) by norm_num, fpt _ (by decide) (by decide)]; rfl
  · rw [if_pos (by norm_num), show (2 * (1 / 2) : ℝ) = ((1 : ℤ) : ℝ) by norm_num, fpt _ (by decide) (by decide)]; rfl
  · rw [if_pos (by norm_num), show (2 * 1 : ℝ) = ((2 : ℤ) : ℝ) by norm_num, fpt _ (by decide) (by decide)]; rfl
  · rw [if_pos (by norm_num), show (2 * (3 / 2) : ℝ) = ((3 : ℤ) : ℝ) by norm_num, fpt _ (by decide) (by decide)]; rfl
  · rw [if_neg (by norm_num), if_pos (by norm_num), show (2 + 2 : ℝ) = ((4 : ℤ) : ℝ) by norm_num, fpt _ (by decide) (by decide)]; rfl
  · rw [if_neg (by norm_num), if_pos (by norm_num), show (3 + 2 : ℝ) = ((5 : ℤ) : ℝ) by norm_num, fpt _ (by decide) (by decide)]; rfl
  · rw [if_neg (by norm_num), if_neg (by norm_num), show (4 / 2 + 4 : ℝ) = ((6 : ℤ) : ℝ) by norm_num, fpt _ (by decide) (by decide)]; rfl
  · rw [if_neg (by norm_num), if_neg (by norm_num), show (6 / 2 + 4 : ℝ) = ((7 : ℤ) : ℝ) by norm_num, fpt _ (by decide) (by decide)]; rfl

theorem lev_lt {a : ℝ} {n : BitVec 32} {q : ℝ} (h : Lev a n q) :
    n = 0#32 ∨ n = 1#32 ∨ n = 2#32 ∨ n = 3#32 ∨ n = 4#32 ∨ n = 5#32 ∨ n = 6#32 ∨ n = 7#32 := by
  rcases h with ⟨-, rfl, -⟩ | ⟨-, -, rfl, -⟩ | ⟨-, -, rfl, -⟩ | ⟨-, -, rfl, -⟩ | ⟨-, -, rfl, -⟩ | ⟨-, -, rfl, -⟩ | ⟨-, -, rfl, -⟩ | ⟨-, rfl, -⟩ <;> simp

/-- The two quantisers agree on clipped quotients of one sign and one level. -/
theorem agree {v v' : ℝ} (hs : v < 0 ↔ v' < 0) (h6 : |v| ≤ 6) {n : BitVec 32} {q : ℝ} (h : Lev |v| n q) (h' : Lev |v'| n q) :
    kcode (v' : EReal) = rcode (v : EReal) ∧ kval (v' : EReal) = rval (v : EReal) := by
  obtain ⟨k1, k2⟩ := klev_of_lev h'
  have k3 := rq_of_lev (abs_nonneg v) h6 h
  have k4 := ridx_of_lev h
  simp only [kcode, rcode, kval, rval, coe_mag, k1, k2, k3, k4, sel_olt, Ideal.ofBits_zero_f32]
  simp only [← EReal.coe_zero, EReal.coe_lt_coe_iff]
  by_cases hv : v < 0
  · have hv' := hs.mp hv
    refine ⟨?_, ?_⟩
    · rw [if_pos hv', show Ideal.cmp .olt (v : EReal) ((0 : ℝ) : EReal) = 1#1 by simp [Ideal.cmp, EReal.coe_lt_coe_iff, hv]]
      rcases lev_lt h with rfl | rfl | rfl | rfl | rfl | rfl | rfl | rfl <;> decide
    · rw [if_pos hv', if_pos hv]; simp
  · have hv' : ¬ v' < 0 := fun e => hv (hs.mpr e)
    refine ⟨?_, ?_⟩
    · rw [if_neg hv', show Ideal.cmp .olt (v : EReal) ((0 : ℝ) : EReal) = 0#1 by simp only [Ideal.cmp, EReal.coe_lt_coe_iff, hv]; rfl]
      rcases lev_lt h with rfl | rfl | rfl | rfl | rfl | rfl | rfl | rfl <;> decide
    · rw [if_neg hv', if_neg hv]

theorem tau_pos : 0 < tau := by unfold tau; positivity

/-- The magnitudes on one side of a boundary of an even level below it. -/
theorem side_le {r t : ℝ} (h5 : t ≤ 5) (z : r + tau < 0 ∨ 0 ≤ r) (h : r + tau ≤ t ∨ t < r) (h' : r + tau < -t ∨ -t ≤ r) :
    (min 6 |r| ≤ t ∧ min 6 |r + tau| ≤ t) ∨ (t < min 6 |r| ∧ t < min 6 |r + tau|) := by
  have hp := tau_pos
  rcases z with z | z
  · rw [abs_of_neg z, abs_of_neg (by linarith : r < 0)]
    rcases h' with h | h
    · exact Or.inr ⟨lt_min (by linarith) (by linarith), lt_min (by linarith) (by linarith)⟩
    · exact Or.inl ⟨min_le_of_right_le (by linarith), min_le_of_right_le (by linarith)⟩
  · rw [abs_of_nonneg z, abs_of_nonneg (by linarith : 0 ≤ r + tau)]
    rcases h with h | h
    · exact Or.inl ⟨min_le_of_right_le (by linarith), min_le_of_right_le (by linarith)⟩
    · exact Or.inr ⟨lt_min (by linarith) (by linarith), lt_min (by linarith) (by linarith)⟩

/-- The magnitudes on one side of a boundary of an even level above it. -/
theorem side_lt {r t : ℝ} (h5 : t ≤ 5) (z : r + tau < 0 ∨ 0 ≤ r) (h : r + tau < t ∨ t ≤ r) (h' : r + tau ≤ -t ∨ -t < r) :
    (min 6 |r| < t ∧ min 6 |r + tau| < t) ∨ (t ≤ min 6 |r| ∧ t ≤ min 6 |r + tau|) := by
  have hp := tau_pos
  rcases z with z | z
  · rw [abs_of_neg z, abs_of_neg (by linarith : r < 0)]
    rcases h' with h | h
    · exact Or.inr ⟨le_min (by linarith) (by linarith), le_min (by linarith) (by linarith)⟩
    · exact Or.inl ⟨min_lt_of_right_lt (by linarith), min_lt_of_right_lt (by linarith)⟩
  · rw [abs_of_nonneg z, abs_of_nonneg (by linarith : 0 ≤ r + tau)]
    rcases h with h | h
    · exact Or.inl ⟨min_lt_of_right_lt (by linarith), min_lt_of_right_lt (by linarith)⟩
    · exact Or.inr ⟨le_min (by linarith) (by linarith), le_min (by linarith) (by linarith)⟩

/-- Both levels, when no boundary is between the two magnitudes. -/
theorem lev_sides {a a' : ℝ} (h1 : (a ≤ 1/4 ∧ a' ≤ 1/4) ∨ (1/4 < a ∧ 1/4 < a')) (h2 : (a < 3/4 ∧ a' < 3/4) ∨ (3/4 ≤ a ∧ 3/4 ≤ a'))
    (h3 : (a ≤ 5/4 ∧ a' ≤ 5/4) ∨ (5/4 < a ∧ 5/4 < a')) (h4 : (a < 7/4 ∧ a' < 7/4) ∨ (7/4 ≤ a ∧ 7/4 ≤ a'))
    (h5 : (a ≤ 5/2 ∧ a' ≤ 5/2) ∨ (5/2 < a ∧ 5/2 < a')) (h6 : (a < 7/2 ∧ a' < 7/2) ∨ (7/2 ≤ a ∧ 7/2 ≤ a'))
    (h7 : (a ≤ 5 ∧ a' ≤ 5) ∨ (5 < a ∧ 5 < a')) : ∃ n q, Lev a n q ∧ Lev a' n q := by
  rcases h1 with h1 | h1
  · exact ⟨0#32, 0, Or.inl ⟨h1.1, rfl, rfl⟩, Or.inl ⟨h1.2, rfl, rfl⟩⟩
  rcases h2 with h2 | h2
  · exact ⟨1#32, 1/2, Or.inr (Or.inl ⟨h1.1, h2.1, rfl, rfl⟩), Or.inr (Or.inl ⟨h1.2, h2.2, rfl, rfl⟩)⟩
  rcases h3 with h3 | h3
  · exact ⟨2#32, 1, Or.inr (Or.inr (Or.inl ⟨h2.1, h3.1, rfl, rfl⟩)), Or.inr (Or.inr (Or.inl ⟨h2.2, h3.2, rfl, rfl⟩))⟩
  rcases h4 with h4 | h4
  · exact ⟨3#32, 3/2, Or.inr (Or.inr (Or.inr (Or.inl ⟨h3.1, h4.1, rfl, rfl⟩))), Or.inr (Or.inr (Or.inr (Or.inl ⟨h3.2, h4.2, rfl, rfl⟩)))⟩
  rcases h5 with h5 | h5
  · exact ⟨4#32, 2, Or.inr (Or.inr (Or.inr (Or.inr (Or.inl ⟨h4.1, h5.1, rfl, rfl⟩)))), Or.inr (Or.inr (Or.inr (Or.inr (Or.inl ⟨h4.2, h5.2, rfl, rfl⟩))))⟩
  rcases h6 with h6 | h6
  · exact ⟨5#32, 3, Or.inr (Or.inr (Or.inr (Or.inr (Or.inr (Or.inl ⟨h5.1, h6.1, rfl, rfl⟩))))), Or.inr (Or.inr (Or.inr (Or.inr (Or.inr (Or.inl ⟨h5.2, h6.2, rfl, rfl⟩)))))⟩
  rcases h7 with h7 | h7
  · exact ⟨6#32, 4, Or.inr (Or.inr (Or.inr (Or.inr (Or.inr (Or.inr (Or.inl ⟨h6.1, h7.1, rfl, rfl⟩)))))), Or.inr (Or.inr (Or.inr (Or.inr (Or.inr (Or.inr (Or.inl ⟨h6.2, h7.2, rfl, rfl⟩))))))⟩
  exact ⟨7#32, 6, Or.inr (Or.inr (Or.inr (Or.inr (Or.inr (Or.inr (Or.inr ⟨h7.1, rfl, rfl⟩)))))), Or.inr (Or.inr (Or.inr (Or.inr (Or.inr (Or.inr (Or.inr ⟨h7.2, rfl, rfl⟩))))))⟩

theorem abs_clip (r : ℝ) : |min 6 (max (-6) r)| = min 6 |r| := by
  rcases le_total r 0 with h | h
  · rw [abs_of_nonpos h]
    rcases le_total r (-6) with h6 | h6
    · rw [max_eq_left h6, min_eq_right (by norm_num), min_eq_left (by linarith)]; norm_num
    · rw [max_eq_right h6, min_eq_right (by linarith), min_eq_right (by linarith), abs_of_nonpos h]
  · rw [abs_of_nonneg h, max_eq_right (by linarith), abs_of_nonneg (le_min (by norm_num) h)]

/-- Where 2^-126 moves the quotient over no boundary, the two quantisers agree. -/
theorem clear_agree {x : EReal} (h : Clear x) : kcode (kclip x) = rcode (rclip x) ∧ kval (kclip x) = rval (rclip x) := by
  induction x using EReal.rec with
  | bot =>
    have e1 : kclip ⊥ = ((-6 : ℝ) : EReal) := by
      rw [kclip, c_six, c_nsix, c_tiny, EReal.bot_add, max_eq_left bot_le, cmin]; norm_num
    have e2 : rclip ⊥ = ((-6 : ℝ) : EReal) := by
      rw [rclip, c_six, c_nsix, max_eq_left bot_le, cmin]; norm_num
    rw [e1, e2]
    exact agree Iff.rfl (by norm_num [abs_of_neg]) (n := 7#32) (q := 6) (by right; right; right; right; right; right; right; norm_num)
      (by right; right; right; right; right; right; right; norm_num)
  | top =>
    have e1 : kclip ⊤ = ((6 : ℝ) : EReal) := by
      rw [kclip, c_six, c_nsix, c_tiny, EReal.top_add_coe, max_eq_right le_top, min_eq_left le_top]
    have e2 : rclip ⊤ = ((6 : ℝ) : EReal) := by
      rw [rclip, c_six, c_nsix, max_eq_right le_top, min_eq_left le_top]
    rw [e1, e2]
    exact agree Iff.rfl (by norm_num) (n := 7#32) (q := 6) (by right; right; right; right; right; right; right; norm_num)
      (by right; right; right; right; right; right; right; norm_num)
  | coe r =>
    have e1 : kclip (r : EReal) = ((min 6 (max (-6) (r + tau)) : ℝ) : EReal) := by
      rw [kclip, c_six, c_nsix, c_tiny, ← EReal.coe_add, cmax, cmin]
    have e2 : rclip (r : EReal) = ((min 6 (max (-6) r) : ℝ) : EReal) := by
      rw [rclip, c_six, c_nsix, cmax, cmin]
    obtain ⟨z, u1, u3, u5, u7, n2, n4, n6, u2, u4, u6, n1, n3, n5, n7⟩ := h
    simp only [Upto, Below, ← EReal.coe_add, EReal.coe_lt_coe_iff, EReal.coe_le_coe_iff] at z u1 u2 u3 u4 u5 u6 u7 n1 n2 n3 n4 n5 n6 n7
    have hp := tau_pos
    obtain ⟨n, q, l1, l2⟩ := lev_sides (side_le (by norm_num) z u1 n1) (side_lt (by norm_num) z u2 n2) (side_le (by norm_num) z u3 n3)
      (side_lt (by norm_num) z u4 n4) (side_le (by norm_num) z u5 n5) (side_lt (by norm_num) z u6 n6) (side_le le_rfl z u7 n7)
    rw [← abs_clip] at l1 l2
    rw [e1, e2]
    refine agree ?_ (by rw [abs_clip]; exact min_le_left _ _) l1 l2
    rcases z with h0 | h0
    · exact iff_of_true (min_lt_of_right_lt (max_lt (by norm_num) (by linarith))) (min_lt_of_right_lt (max_lt (by norm_num) h0))
    · constructor
      · intro e; exact absurd e (not_lt.mpr (le_min (by norm_num) (le_max_of_le_right h0)))
      · intro e; exact absurd e (not_lt.mpr (le_min (by norm_num) (le_max_of_le_right (by linarith))))

end Cert.Q

end
-- ==== Proof.Words.lean ====
/- Four-bit codes in words and bytes, bit by bit. -/
module

public import Idealize.ShloMosaic.Lib.Pointwise

@[expose] public section

noncomputable section

namespace Cert.Q

open Idealize.ShloMosaic

/-- Two codes in a byte, the first in the low bits. -/
def pair (a b : BitVec 32) : BitVec 8 := (a ||| b <<< 4).setWidth 8

theorem bit_hi {a : BitVec 32} (h : a.toNat < 16) (i : ℕ) (hi : 4 ≤ i) : a.getLsbD i = false := by
  rw [← BitVec.testBit_toNat]
  exact Nat.testBit_lt_two_pow (lt_of_lt_of_le h (Nat.pow_le_pow_right (by decide) hi : 2 ^ 4 ≤ 2 ^ i))

theorem pair_bit {a b : BitVec 32} (ha : a.toNat < 16) (i : ℕ) (hi : i < 8) :
    (pair a b).getLsbD i = if i < 4 then a.getLsbD i else b.getLsbD (i - 4) := by
  unfold pair
  rw [BitVec.getLsbD_setWidth, BitVec.getLsbD_or, BitVec.getLsbD_shiftLeft]
  by_cases h : i < 4
  · simp [h, hi]
  · simp [h, hi, bit_hi ha i (by omega)]
    omega

/-- Eight codes in a word. -/
def word (c : Fin 8 → BitVec 32) : BitVec 32 :=
  Finset.fold IntOp.addi 0#32 (fun x => IntOp.shli .vector (c x) (IntOp.muli 4#32 (BitVec.ofNat 32 x.val))) Finset.univ

theorem shl_at (x : BitVec 32) : ∀ k : Fin 8, IntOp.shli .vector x (IntOp.muli 4#32 (BitVec.ofNat 32 k.val)) = x <<< (4 * k.val) := by
  intro k
  fin_cases k <;> rfl

theorem word_eq (c : Fin 8 → BitVec 32) :
    word c = c 0 <<< 0 + (c 1 <<< 4 + (c 2 <<< 8 + (c 3 <<< 12 + (c 4 <<< 16 + (c 5 <<< 20 + (c 6 <<< 24 + (c 7 <<< 28 + 0#32))))))) := by
  unfold word
  simp only [shl_at]
  rfl

theorem word_nat (c : Fin 8 → BitVec 32) (h : ∀ k, (c k).toNat < 16) :
    (word c).toNat = (c 0).toNat + 16 * (c 1).toNat + 256 * (c 2).toNat + 4096 * (c 3).toNat + 65536 * (c 4).toNat + 1048576 * (c 5).toNat
      + 16777216 * (c 6).toNat + 268435456 * (c 7).toNat := by
  have h0 := h 0; have h1 := h 1; have h2 := h 2; have h3 := h 3; have h4 := h 4; have h5 := h 5; have h6 := h 6; have h7 := h 7
  rw [word_eq]
  simp only [BitVec.toNat_add, BitVec.toNat_shiftLeft, Nat.shiftLeft_eq, BitVec.toNat_ofNat]
  omega

theorem word_bit (c : Fin 8 → BitVec 32) (h : ∀ k, (c k).toNat < 16) (k : Fin 8) (i : ℕ) (hi : i < 4) :
    (word c).getLsbD (4 * k.val + i) = (c k).getLsbD i := by
  have h0 := h 0; have h1 := h 1; have h2 := h 2; have h3 := h 3; have h4 := h 4; have h5 := h 5; have h6 := h 6; have h7 := h 7
  have hk : (word c).toNat / 2 ^ (4 * k.val) % 2 ^ 4 = (c k).toNat := by
    rw [word_nat c h]
    have hk : ∀ k : Fin 8, k = 0 ∨ k = 1 ∨ k = 2 ∨ k = 3 ∨ k = 4 ∨ k = 5 ∨ k = 6 ∨ k = 7 := by decide
    rcases hk k with rfl | rfl | rfl | rfl | rfl | rfl | rfl | rfl <;> norm_num <;> omega
  rw [← BitVec.testBit_toNat, ← BitVec.testBit_toNat, ← hk, Nat.testBit_mod_two_pow, Nat.testBit_div_two_pow, Nat.add_comm i]
  simp [hi]

/-- A code's bits after the shifts that bring it down again. -/
theorem down_bit (x : BitVec 32) (k : Fin 8) (i : ℕ) (hi : i < 4) :
    (IntOp.shrsi .vector (IntOp.shli .vector x (IntOp.subi 28#32 (IntOp.muli 4#32 (BitVec.ofNat 32 k.val)))) 28#32).getLsbD i = x.getLsbD (4 * k.val + i) := by
  have e : ∀ k : Fin 8, IntOp.shrsi .vector (IntOp.shli .vector x (IntOp.subi 28#32 (IntOp.muli 4#32 (BitVec.ofNat 32 k.val)))) 28#32
      = (x <<< (28 - 4 * k.val)).sshiftRight 28 := by
    intro k
    fin_cases k <;> rfl
  rw [e, BitVec.getLsbD_sshiftRight, BitVec.getLsbD_shiftLeft]
  obtain ⟨k, hk⟩ := k
  interval_cases k <;> interval_cases i <;> simp

/-- The low bits of each byte of the even codes and the high bits of each byte of the odd ones. -/
theorem mix_bit (x y : BitVec 32) (b : Fin 4) (i : ℕ) (hi : i < 8) :
    (IntOp.ori (IntOp.andi x 252645135#32) (IntOp.andi (IntOp.shli .vector y 4#32) 4042322160#32)).getLsbD (8 * b.val + i)
      = if i < 4 then x.getLsbD (8 * b.val + i) else y.getLsbD (8 * b.val + i - 4) := by
  have e : IntOp.ori (IntOp.andi x 252645135#32) (IntOp.andi (IntOp.shli .vector y 4#32) 4042322160#32) = x &&& 252645135#32 ||| (y <<< 4) &&& 4042322160#32 := rfl
  rw [e, BitVec.getLsbD_or, BitVec.getLsbD_and, BitVec.getLsbD_and, BitVec.getLsbD_shiftLeft]
  obtain ⟨b, hb⟩ := b
  interval_cases b <;> interval_cases i <;> simp

end Cert.Q
-- ==== Proof.Bits.lean ====
/- The packed words and bytes of the kernel, bit by bit. -/
module

public import proofs.«01_k».proof.Proof.Units
public import proofs.«01_k».proof.Proof.Scalar
public import proofs.«01_k».proof.Proof.Words
public import Idealize.ShloMosaic.Lib.Pointwise
public import Idealize.ShloMosaic.Lib.BitcastFour
public import Idealize.ShloMosaic.Lib.BitcastPair

@[expose] public section

set_option maxRecDepth 16384

noncomputable section

namespace Cert.KernelIdeal.U

open Idealize.ShloMosaic Cert.KernelIdeal.Gen Cert.Q

/-- A word's byte, at a bit. -/
theorem bytes_bit (Q : IVec S8x128 32) (p : Fin 32) (l : Fin 128) (i : ℕ) (hi : i < 8) :
    (bytesU Q (ix2 p l)).getLsbD i = (Q (ix2 ⟨p.val / 4, by omega⟩ l)).getLsbD (8 * (p.val % 4) + i) := by
  unfold bytesU
  rw [bitcast_getLsbD _ _ _ _ hi (by decide)]
  have hr : S32x128.row (ix2 p l) = p.val := rfl
  refine congrArg₂ (fun (x : BitVec 32) (n : ℕ) => x.getLsbD n) (congrArg Q ?_) (by rw [hr]; omega)
  funext a
  match a with
  | ⟨0, _⟩ => exact Fin.ext (by
      refine (Shape.Bitcasts.srcIdx_row _ _ _ _ ⟨0, Nat.zero_lt_two⟩ rfl).trans ?_
      show (S32x128.row (ix2 p l) * 8 + i) / 32 = p.val / 4
      rw [hr]
      omega)
  | ⟨1, _⟩ => exact Fin.ext (Shape.Bitcasts.srcIdx_other _ _ _ _ ⟨1, Nat.one_lt_two⟩ (by show ¬ 1 + 2 = 2; omega))

/-- A byte of a word of bytes, at a bit. -/
theorem unbytes_bit (Q : IVec S16x128 32) (p : Fin 64) (l : Fin 128) (i : ℕ) (hi : i < 8) :
    (bitcast S64x128 8 Q bitcasts_S16x128_w32_S64x128_w8 (ix2 p l)).getLsbD i = (Q (ix2 ⟨p.val / 4, by omega⟩ l)).getLsbD (8 * (p.val % 4) + i) := by
  rw [bitcast_getLsbD _ _ _ _ hi (by decide)]
  have hr : S64x128.row (ix2 p l) = p.val := rfl
  refine congrArg₂ (fun (x : BitVec 32) (n : ℕ) => x.getLsbD n) (congrArg Q ?_) (by rw [hr]; omega)
  funext a
  match a with
  | ⟨0, _⟩ => exact Fin.ext (by
      refine (Shape.Bitcasts.srcIdx_row _ _ _ _ ⟨0, Nat.zero_lt_two⟩ rfl).trans ?_
      show (S64x128.row (ix2 p l) * 8 + i) / 32 = p.val / 4
      rw [hr]
      omega)
  | ⟨1, _⟩ => exact Fin.ext (Shape.Bitcasts.srcIdx_other _ _ _ _ ⟨1, Nat.one_lt_two⟩ (by show ¬ 1 + 2 = 2; omega))

theorem q32_at (v : FVec Ideal S64x128 .f32) (r : Fin 8) (l : Fin 128) :
    q32U v (ix2 r l) = word fun x => codeU v (ix2 ⟨r.val * 8 + x.val, by omega⟩ l) := by
  unfold q32U word
  generalize codeU v = c
  pointwise [shU]

theorem code_at (v : FVec Ideal S64x128 .f32) (r : Fin 64) (l : Fin 128) : codeU v (ix2 r l) = kcode (v (ix2 r l)) := rfl

theorem val_at (v : FVec Ideal S64x128 .f32) (r : Fin 64) (l : Fin 128) : valU v (ix2 r l) = kval (v (ix2 r l)) := rfl

theorem klev_lt (a : EReal) : (klev a).toNat < 8 := by
  unfold klev sel
  split_ifs <;> decide

theorem kcode_lt (a : EReal) : (kcode a).toNat < 16 := by
  have h := klev_lt (mag a)
  unfold kcode sel
  split_ifs
  · rw [BitVec.toNat_or]
    exact Nat.or_lt_two_pow (n := 4) (by omega) (by decide)
  · omega

/-- The words' codes. -/
theorem q32_bit (v : FVec Ideal S64x128 .f32) (r : Fin 8) (l : Fin 128) (k : Fin 8) (i : ℕ) (hi : i < 4) :
    (q32U v (ix2 r l)).getLsbD (4 * k.val + i) = (kcode (v (ix2 ⟨r.val * 8 + k.val, by omega⟩ l))).getLsbD i := by
  rw [q32_at, word_bit _ (fun x => by rw [code_at]; exact kcode_lt _) k i hi, code_at]

/-- The words' bytes are pairs of rows' codes. -/
theorem bytes_at (v : FVec Ideal S64x128 .f32) (p : Fin 32) (l : Fin 128) :
    bytesU (q32U v) (ix2 p l) = pair (kcode (v (ix2 ⟨2 * p.val, by omega⟩ l))) (kcode (v (ix2 ⟨2 * p.val + 1, by omega⟩ l))) := by
  refine BitVec.eq_of_getLsbD_eq fun i hi => ?_
  rw [bytes_bit _ _ _ _ hi, pair_bit (kcode_lt _) i hi]
  split_ifs with h
  · have e := q32_bit v ⟨p.val / 4, by omega⟩ l ⟨2 * (p.val % 4), by omega⟩ i h
    rw [show 8 * (p.val % 4) + i = 4 * (2 * (p.val % 4)) + i by omega]
    refine e.trans ?_
    have e2 : (⟨p.val / 4 * 8 + 2 * (p.val % 4), by omega⟩ : Fin 64) = ⟨2 * p.val, by omega⟩ := Fin.ext (by show p.val / 4 * 8 + 2 * (p.val % 4) = 2 * p.val; omega)
    rw [← e2]
  · have e := q32_bit v ⟨p.val / 4, by omega⟩ l ⟨2 * (p.val % 4) + 1, by omega⟩ (i - 4) (by omega)
    rw [show 8 * (p.val % 4) + i = 4 * (2 * (p.val % 4) + 1) + (i - 4) by omega]
    refine e.trans ?_
    have e2 : (⟨p.val / 4 * 8 + (2 * (p.val % 4) + 1), by omega⟩ : Fin 64) = ⟨2 * p.val + 1, by omega⟩ := Fin.ext (by show p.val / 4 * 8 + (2 * (p.val % 4) + 1) = 2 * p.val + 1; omega)
    rw [← e2]

theorem down_at (Q : IVec S8x128 32) (R : Fin 64) (l : Fin 128) :
    (shapeCast S64x128
        (shrsi
          (shli (broadcastTo S8x8x128 (shapeCast S8x1x128 (shapeCast S8x1x128 Q shapeCasts_S8x128_S8x1x128) shapeCasts_S8x1x128_S8x1x128) broadcasts_S8x1x128_S8x8x128)
            (subi (broadcast S8x8x128 28#32) shU))
          (broadcast S8x8x128 28#32))
        shapeCasts_S8x8x128_S64x128) (ix2 R l)
      = IntOp.shrsi .vector (IntOp.shli .vector (Q (ix2 ⟨R.val / 8, by omega⟩ l)) (IntOp.subi 28#32 (IntOp.muli 4#32 (BitVec.ofNat 32 (R.val % 8))))) 28#32 := by
  pointwise [shU]

/-- The codes spread to bytes, at a code's bit. -/
theorem spread_bit (Q : IVec S8x128 32) (R : Fin 64) (l : Fin 128) (i : ℕ) (hi : i < 4) :
    (spreadU Q (ix2 ⟨R.val / 4, by omega⟩ l)).getLsbD (8 * (R.val % 4) + i) = (Q (ix2 ⟨R.val / 8, by omega⟩ l)).getLsbD (4 * (R.val % 8) + i) := by
  unfold spreadU
  rw [ix2_eq_valueIdx]
  refine (bitcast_8_32_getLsbD_ix2 _ _ _ _ _ (by omega) R (by show R.val = 4 * (R.val / 4) + (8 * (R.val % 4) + i) / 8; omega)).trans ?_
  have hm : (8 * (R.val % 4) + i) % 8 = i := by omega
  rw [hm, ← down_bit _ ⟨R.val % 8, by omega⟩ i hi]
  refine (BitVec.getLsbD_setWidth _ _ _).trans ?_
  have := down_at Q R l
  rw [decide_eq_true (by omega : i < 8), Bool.true_and]
  exact congrArg (fun x : BitVec 32 => x.getLsbD i) this

theorem low_at (r : Fin 8) (l : Fin 128) : lowU (ix2 r l) = if l.val < 64 then 1#1 else 0#1 := by
  pointwise [lowU, lane]
  revert l
  decide +kernel

theorem fold_lo (r : Fin 8) (l : Fin 128) : (gix foldU (ix2 r l)).toNat % 128 = if l.val < 64 then 2 * l.val else 2 * l.val - 127 := by
  pointwise [gix, foldU, lowU, lane]
  revert l
  decide +kernel

theorem foldx_lo (r : Fin 8) (l : Fin 128) : (gix foldxU (ix2 r l)).toNat % 128 = if l.val < 64 then 2 * l.val + 1 else 2 * l.val - 128 := by
  pointwise [gix, foldxU, lowU, lane]
  revert l
  decide +kernel

theorem ev_at (qa qb : IVec S8x128 32) (r : Fin 8) (l : Fin 128) :
    evU qa qb (ix2 r l) = if l.val < 64 then qa (ix2 r ⟨2 * l.val % 128, Nat.mod_lt _ (by decide)⟩) else qb (ix2 r ⟨2 * l.val % 128, Nat.mod_lt _ (by decide)⟩) := by
  unfold evU
  pointwise
  have h1 := fold_lo r l
  have h2 := foldx_lo r l
  rw [low_at]
  by_cases h : l.val < 64
  · rw [if_pos h] at h1
    rw [if_pos h, if_pos h]
    exact congrArg (fun k => qa (ix2 r k)) (Fin.ext (h1.trans (by show 2 * l.val = 2 * l.val % 128; omega)))
  · rw [if_neg h] at h2
    rw [if_neg h, if_neg h]
    exact congrArg (fun k => qb (ix2 r k)) (Fin.ext (h2.trans (by show 2 * l.val - 128 = 2 * l.val % 128; omega)))

theorem od_at (qa qb : IVec S8x128 32) (r : Fin 8) (l : Fin 128) :
    odU qa qb (ix2 r l) = if l.val < 64 then qa (ix2 r ⟨(2 * l.val + 1) % 128, Nat.mod_lt _ (by decide)⟩) else qb (ix2 r ⟨(2 * l.val + 1) % 128, Nat.mod_lt _ (by decide)⟩) := by
  unfold odU
  pointwise
  have h1 := fold_lo r ⟨(l.val + 128 - 64) % 128, Nat.mod_lt _ (by decide)⟩
  have h2 := foldx_lo r ⟨(l.val + 128 - 64) % 128, Nat.mod_lt _ (by decide)⟩
  rw [low_at]
  by_cases h : l.val < 64
  · have hh : ¬ (l.val + 128 - 64) % 128 < 64 := by omega
    rw [if_neg (by exact hh)] at h1
    rw [if_pos h, if_neg (by exact hh)]
    refine congrArg (fun k => qa (ix2 r k)) (Fin.ext (h1.trans ?_))
    show 2 * ((l.val + 128 - 64) % 128) - 127 = (2 * l.val + 1) % 128
    omega
  · have hh : (l.val + 128 - 64) % 128 < 64 := by omega
    rw [if_pos (by exact hh)] at h2
    rw [if_neg h, if_pos (by exact hh)]
    refine congrArg (fun k => qb (ix2 r k)) (Fin.ext (h2.trans ?_))
    show 2 * ((l.val + 128 - 64) % 128) + 1 = (2 * l.val + 1) % 128
    omega

/-- The bytes of one tile of the codes paired along the columns. -/
theorem ck_at (va vb : FVec Ideal S64x128 .f32) (p : Fin 64) (l : Fin 128) :
    ckU (q32U va) (q32U vb) (ix2 p l)
      = pair (kcode (if l.val < 64 then va (ix2 p ⟨2 * l.val % 128, Nat.mod_lt _ (by decide)⟩) else vb (ix2 p ⟨2 * l.val % 128, Nat.mod_lt _ (by decide)⟩)))
          (kcode (if l.val < 64 then va (ix2 p ⟨(2 * l.val + 1) % 128, Nat.mod_lt _ (by decide)⟩) else vb (ix2 p ⟨(2 * l.val + 1) % 128, Nat.mod_lt _ (by decide)⟩))) := by
  have hq : ∀ (v : FVec Ideal S64x128 .f32) (l : Fin 128) (i : ℕ), i < 4 →
      (q32U v (ix2 ⟨p.val / 8, by omega⟩ l)).getLsbD (4 * (p.val % 8) + i) = (kcode (v (ix2 p l))).getLsbD i := by
    intro v l i hi
    refine (q32_bit v ⟨p.val / 8, by omega⟩ l ⟨p.val % 8, by omega⟩ i hi).trans ?_
    have e2 : (⟨p.val / 8 * 8 + p.val % 8, by omega⟩ : Fin 64) = p := Fin.ext (by show p.val / 8 * 8 + p.val % 8 = p.val; omega)
    rw [e2]
  refine BitVec.eq_of_getLsbD_eq fun i hi => ?_
  rw [pair_bit (kcode_lt _) i hi]
  unfold ckU
  rw [unbytes_bit _ _ _ _ hi]
  refine (mix_bit (spreadU (evU (q32U va) (q32U vb)) (ix2 ⟨p.val / 4, by omega⟩ l)) (spreadU (odU (q32U va) (q32U vb)) (ix2 ⟨p.val / 4, by omega⟩ l)) ⟨p.val % 4, by omega⟩ i hi).trans ?_
  by_cases h : i < 4
  · rw [if_pos h, if_pos h, spread_bit _ p l i h, ev_at]
    split_ifs
    · exact hq _ _ _ h
    · exact hq _ _ _ h
  · rw [if_neg h, if_neg h]
    rw [show 8 * ((⟨p.val % 4, by omega⟩ : Fin 4).val) + i - 4 = 8 * (p.val % 4) + (i - 4) by show 8 * (p.val % 4) + i - 4 = _; omega, spread_bit _ p l (i - 4) (by omega), od_at]
    split_ifs
    · exact hq _ _ _ (by omega)
    · exact hq _ _ _ (by omega)

/-- Four blocks of bytes below each other, transposed. -/
theorem cat_bytes (a b c d : IVec S32x128 8) (l p : Fin 128) {x : BitVec 8}
    (ha : ∀ q : Fin 32, p.val = q.val → a (ix2 q l) = x) (hb : ∀ q : Fin 32, p.val = 32 + q.val → b (ix2 q l) = x)
    (hc : ∀ q : Fin 32, p.val = 64 + q.val → c (ix2 q l) = x) (hd : ∀ q : Fin 32, p.val = 96 + q.val → d (ix2 q l) = x) :
    transpose S128x128 [1, 0] (concatenate S128x128 0 [⟨S32x128, a⟩, ⟨S32x128, b⟩, ⟨S32x128, c⟩, ⟨S32x128, d⟩]
      concatenates_S32x128_S32x128_S32x128_S32x128_S128x128_d0) transposes_S128x128_p1_0_S128x128 (ix2 l p) = x := by
  pointwise
  by_cases h1 : p.val < 32
  · rw [dif_pos h1]
    exact ha ⟨p.val, h1⟩ rfl
  rw [dif_neg h1]
  by_cases h2 : p.val - 32 < 32
  · rw [dif_pos h2]
    exact hb ⟨p.val - 32, h2⟩ (by show p.val = 32 + (p.val - 32); omega)
  rw [dif_neg h2]
  by_cases h3 : p.val - 32 - 32 < 32
  · rw [dif_pos h3]
    exact hc ⟨p.val - 32 - 32, h3⟩ (by show p.val = 64 + (p.val - 32 - 32); omega)
  rw [dif_neg h3]
  exact hd ⟨p.val - 32 - 32 - 32, by omega⟩ (by show p.val = 96 + (p.val - 32 - 32 - 32); omega)

/-- The bytes of one tile of the codes paired along the rows. -/
theorem cn_at (V : Fin 4 → FVec Ideal S64x128 .f32) (l p : Fin 128) :
    cnU (q32U (V 0)) (q32U (V 1)) (q32U (V 2)) (q32U (V 3)) (ix2 l p)
      = pair (kcode (V ⟨p.val / 32, by omega⟩ (ix2 ⟨2 * (p.val % 32), by omega⟩ l))) (kcode (V ⟨p.val / 32, by omega⟩ (ix2 ⟨2 * (p.val % 32) + 1, by omega⟩ l))) := by
  have e : ∀ (a : Fin 4) (q : Fin 32), 32 * a.val + q.val = p.val → bytesU (q32U (V a)) (ix2 q l)
      = pair (kcode (V ⟨p.val / 32, by omega⟩ (ix2 ⟨2 * (p.val % 32), by omega⟩ l))) (kcode (V ⟨p.val / 32, by omega⟩ (ix2 ⟨2 * (p.val % 32) + 1, by omega⟩ l))) := by
    intro a q h
    rw [bytes_at]
    have e1 : (⟨p.val / 32, by omega⟩ : Fin 4) = a := Fin.ext (by show p.val / 32 = a.val; omega)
    have e2 : p.val % 32 = q.val := by omega
    simp only [e1, e2]
  unfold cnU
  exact cat_bytes _ _ _ _ l p (fun q h => e 0 q (by show 32 * 0 + q.val = p.val; omega)) (fun q h => e 1 q (by show 32 * 1 + q.val = p.val; omega))
    (fun q h => e 2 q (by show 32 * 2 + q.val = p.val; omega)) (fun q h => e 3 q (by show 32 * 3 + q.val = p.val; omega))

/-- Four blocks of rows below each other. -/
theorem cat4_at (B : Fin 4 → FVec Ideal S16x128 .f32) (r : Fin 64) (l : Fin 128) :
    cat4 (B 0) (B 1) (B 2) (B 3) (ix2 r l) = B ⟨r.val / 16, by omega⟩ (ix2 ⟨r.val % 16, by omega⟩ l) := by
  have e : ∀ (a : Fin 4) (q : Fin 16), r.val = 16 * a.val + q.val → B a (ix2 q l) = B ⟨r.val / 16, by omega⟩ (ix2 ⟨r.val % 16, by omega⟩ l) := by
    intro a q h
    have e1 : (⟨r.val / 16, by omega⟩ : Fin 4) = a := Fin.ext (by show r.val / 16 = a.val; omega)
    have e2 : (⟨r.val % 16, by omega⟩ : Fin 16) = q := Fin.ext (by show r.val % 16 = q.val; omega)
    rw [e1, e2]
  unfold cat4
  pointwise
  by_cases h1 : r.val < 16
  · rw [dif_pos h1]
    exact e 0 ⟨r.val, h1⟩ (by show r.val = 16 * 0 + r.val; omega)
  rw [dif_neg h1]
  by_cases h2 : r.val - 16 < 16
  · rw [dif_pos h2]
    exact e 1 ⟨r.val - 16, h2⟩ (by show r.val = 16 * 1 + (r.val - 16); omega)
  rw [dif_neg h2]
  by_cases h3 : r.val - 16 - 16 < 16
  · rw [dif_pos h3]
    exact e 2 ⟨r.val - 16 - 16, h3⟩ (by show r.val = 16 * 2 + (r.val - 16 - 16); omega)
  rw [dif_neg h3]
  exact e 3 ⟨r.val - 16 - 16 - 16, by omega⟩ (by show r.val = 16 * 3 + (r.val - 16 - 16 - 16); omega)

theorem clip_at (w : Vec Ideal S16x128 .bf16) (x : Vec Ideal S1x128 .f32) (r : Fin 16) (l : Fin 128) :
    clipU w x (ix2 r l) = kclip (w (ix2 r l) * x (ix2 0 l)) := by
  pointwise [clipU]
  rfl

theorem rows_at (x : Vec Ideal S1x128 .f32) (r : Fin 16) (l : Fin 128) : rowsU x (ix2 r l) = x (ix2 0 l) := by
  pointwise [rowsU]

theorem deq_at (v s : FVec Ideal S64x128 .f32) (r : Fin 64) (l : Fin 128) : deqU v s (ix2 r l) = kval (v (ix2 r l)) * s (ix2 r l) := by
  unfold deqU
  rw [shapeCast_self, ← val_at]
  rfl

/-- The reciprocal that the kernel multiplies by. -/
theorem unitR_at (st st6 m : FVec Ideal S8x128 .f32) (j : S8x128.Idx) :
    unitR st st6 m j = if 0 < unitS st6 m j * st j then Ideal.div (Ideal.ofBits .f32 0x3F800000#32) (unitS st6 m j * st j) else 0 := by
  unfold unitR unitP unitD
  generalize unitS st6 m = u
  pointwise
  by_cases h : 0 < u j * st j
  · simp [h]
  · simp [h]

end Cert.KernelIdeal.U
-- ==== Proof.Quot.lean ====
/- The quotient of a weight by its dequantisation scale, as the two programs form it. -/
module

public import proofs.«01_k».proof.Proof.Maxima
public import proofs.«01_k».proof.Proof.Scalar

@[expose] public section

noncomputable section

namespace Cert.Q

open Idealize.ShloMosaic

/-- The reciprocal of a dequantisation scale, zero where the scale is not positive. -/
def rec1 (d : EReal) : EReal := if 0 < d then Ideal.div (Ideal.ofBits .f32 0x3F800000#32) d else 0

/-- The scale of a weight's block. -/
def sBe (W : (⟨2, ![8960, 1536]⟩ : Shape).Idx → EReal) (H : (⟨1, ![24]⟩ : Shape).Idx → EReal) (r : Fin 8960) (j : Fin 1536) : EReal :=
  sB W H ⟨r.val / 16, by omega⟩ ⟨j.val / 16, by omega⟩

/-- The quotient of a weight, by the reciprocal. -/
def qx (W : (⟨2, ![8960, 1536]⟩ : Shape).Idx → EReal) (H : (⟨1, ![24]⟩ : Shape).Idx → EReal) (r : Fin 8960) (j : Fin 1536) : EReal :=
  W (ix2 r j) * rec1 (sBe W H r j * sT H)

/-- The quotient by a scale, zero where the scale is not positive. -/
def quo (w d : EReal) : EReal :=
  sel (Ideal.cmp .ogt d (Ideal.ofBits .f32 0x00000000#32))
    (Ideal.div w (sel (Ideal.cmp .ogt d (Ideal.ofBits .f32 0x00000000#32)) d (Ideal.ofBits .f32 0x3F800000#32)))
    (Ideal.ofBits .f32 0x00000000#32)

theorem quo_eq (w d : EReal) : quo w d = w * rec1 d := by
  unfold quo rec1 sel
  rw [Ideal.ofBits_zero_f32, c_one]
  by_cases h : 0 < d
  · have hb : Ideal.cmp .ogt d 0 = 1#1 := by simp [Ideal.cmp, h]
    have h0 : d ≠ 0 := ne_of_gt h
    rw [hb, if_pos h, if_pos (by decide), if_pos (by decide)]
    unfold Ideal.div
    rw [if_neg h0, if_neg h0, EReal.coe_one, one_mul]
  · have hb : Ideal.cmp .ogt d 0 = 0#1 := by simp [Ideal.cmp, h]
    rw [hb, if_neg h, if_neg (by decide), mul_zero]

/-- The quotient of a weight, by the division. -/
theorem quo_qx (W : (⟨2, ![8960, 1536]⟩ : Shape).Idx → EReal) (H : (⟨1, ![24]⟩ : Shape).Idx → EReal) (r : Fin 8960) (j : Fin 1536) :
    quo (W (ix2 r j)) (sBe W H r j * sT H) = qx W H r j := quo_eq _ _

end Cert.Q

end
-- ==== Proof.Codes.lean ====
/- The kernel's codes and dequantised weights over the extended reals, at an element. -/
module

public import proofs.«01_k».proof.Proof.Bits
public import proofs.«01_k».proof.Proof.Scales
public import proofs.«01_k».proof.Proof.Quot

@[expose] public section

set_option maxRecDepth 16384

noncomputable section

namespace Cert.KernelIdeal.Gen

open Cert.KernelIdeal Idealize.ShloMosaic Idealize.ShloMosaic.TcCoe Idealize.SL.Sem Cert.KernelIdeal.U Cert.Q

/-- A buffer stored by rectangles, read at an element. -/
theorem canon_unit {e : EltTy} {s0 s1 b0 b1 : ℕ} {ι : Type} (L : List ι) (f g : ι → ℕ)
    (h : ∀ p, ∀ a, (![f p, g p] : Fin 2 → ℕ) a + (![b0, b1] : Fin 2 → ℕ) a ≤ (⟨2, ![s0, s1]⟩ : Shape).size a)
    (P : ι → Vec Ideal (⟨2, ![b0, b1]⟩ : Shape) e) (G : Vec Ideal (⟨2, ![s0, s1]⟩ : Shape) e)
    (hG : ∀ p (i : Fin b0) (j : Fin b1) (hi : f p + i.val < s0) (hj : g p + j.val < s1), P p (ix2 i j) = G (ix2 ⟨f p + i.val, hi⟩ ⟨g p + j.val, hj⟩))
    (L' : List (View.Piece (Elt Ideal) (⟨2, ![s0, s1]⟩ : Shape) e))
    (hL : L' = L.map fun p => ⟨Rect.unit (s := (⟨2, ![s0, s1]⟩ : Shape)) ![f p, g p] ![b0, b1] (h p), P p⟩)
    (y : (⟨2, ![s0, s1]⟩ : Shape).Idx) (hy : ∃ p ∈ L', y ∈ p.1.set) : View.canon L' y = G y := by
  refine View.canon_apply_of_pieces G _ ?_ y hy
  subst hL
  intro p hp x
  obtain ⟨q, -, rfl⟩ := List.mem_map.mp hp
  have h0 : f q + (x 0).val < s0 := lt_of_lt_of_le (Nat.add_lt_add_left (x 0).isLt _) (h q 0)
  have h1 : g q + (x 1).val < s1 := lt_of_lt_of_le (Nat.add_lt_add_left (x 1).isLt _) (h q 1)
  have e1 : (Rect.unit (s := (⟨2, ![s0, s1]⟩ : Shape)) ![f q, g q] ![b0, b1] (h q)).emb x = ix2 ⟨f q + (x 0).val, h0⟩ ⟨g q + (x 1).val, h1⟩ := by
    funext a
    match a with
    | ⟨0, _⟩ => exact Fin.ext (by show f q + 1 * (x 0).val = f q + (x 0).val; omega)
    | ⟨1, _⟩ => exact Fin.ext (by show g q + 1 * (x 1).val = g q + (x 1).val; omega)
  have e2 : x = ix2 (x 0) (x 1) := by
    funext a
    match a with
    | ⟨0, _⟩ => rfl
    | ⟨1, _⟩ => rfl
  rw [e1]
  refine Eq.trans ?_ (hG q (x 0) (x 1) h0 h1)
  exact congrArg (P q) e2

variable (m : (ℓ : Loc nD τ sig) → Buf (Elt Ideal) ℓ)

theorem wM_at (x : Vec Ideal S256x1536 .bf16) (r : Fin 16) (t : Fin 12) (i : Fin 16) (l : Fin 128) :
    wM x r t (ix2 i l) = x (ix2 ⟨16 * r.val + i.val, by omega⟩ ⟨128 * t.val + l.val, by omega⟩) := by
  unfold wM
  refine congrArg x (funext fun a => ?_)
  match a with
  | ⟨0, _⟩ => exact Fin.ext (by show 16 * r.val + 1 * i.val = 16 * r.val + i.val; omega)
  | ⟨1, _⟩ => exact Fin.ext (by show 128 * t.val + 1 * l.val = 128 * t.val + l.val; omega)

theorem lM_at (L : List (View.Piece (Elt Ideal) S16x1536 .f32)) (r : Fin 16) (t : Fin 12) (l : Fin 128) :
    lM L r t (ix2 0 l) = View.canon L (ix2 r ⟨128 * t.val + l.val, by omega⟩) := by
  unfold lM
  refine congrArg (View.canon L) (funext fun a => ?_)
  match a with
  | ⟨0, _⟩ => exact Fin.ext (by show r.val + 1 * 0 = r.val; omega)
  | ⟨1, _⟩ => exact Fin.ext (by show 128 * t.val + 1 * l.val = 128 * t.val + l.val; omega)

/-- The block scales' buffer. -/
theorem canonS (c : Dev nD) (n : ℕ) (hn : n < 35) (R : Fin 16) (j : Fin 1536) :
    View.canon (piecesS (st6M (hB m c)) (aM (wB m c n))) (ix2 R j) = sB (aW m c) (aH m c) ⟨16 * n + R.val, by omega⟩ ⟨j.val / 16, by omega⟩ := by
  refine canon_unit (e := .f32) (s0 := 16) (s1 := 1536) (b0 := 8) (b1 := 128) rl (fun p => 8 * p.1.val) (fun p => 128 * p.2.val) (fun p => hR p.1 p.2)
    (fun p => unitS (st6M (hB m c)) (tile (aM (wB m c n)) p.1 p.2)) (fun y => sB (aW m c) (aH m c) ⟨16 * n + (y 0).val, by have : (y 0).val < 16 := (y 0).isLt; omega⟩ ⟨(y 1).val / 16, by have : (y 1).val < 1536 := (y 1).isLt; omega⟩)
    ?_ _ ?_ (ix2 R j) (coverS _ _ _)
  · intro p i l hi hl
    refine (unitSM_at m c n hn p.1 p.2 i l).trans ?_
    refine congrArg₂ (sB (aW m c) (aH m c)) rfl (Fin.ext ?_)
    show 8 * p.2.val + l.val / 16 = (128 * p.2.val + l.val) / 16
    omega
  · unfold piecesS
    simp only [shapeCast_self]

/-- The reciprocals' buffer. -/
theorem canonR (c : Dev nD) (n : ℕ) (hn : n < 35) (R : Fin 16) (j : Fin 1536) :
    View.canon (piecesR (U.stM (hB m c)) (st6M (hB m c)) (aM (wB m c n))) (ix2 R j) = rec1 (sB (aW m c) (aH m c) ⟨16 * n + R.val, by omega⟩ ⟨j.val / 16, by omega⟩ * sT (aH m c)) := by
  refine canon_unit (e := .f32) (s0 := 16) (s1 := 1536) (b0 := 8) (b1 := 128) rl (fun p => 8 * p.1.val) (fun p => 128 * p.2.val) (fun p => hR p.1 p.2)
    (fun p => unitR (U.stM (hB m c)) (st6M (hB m c)) (tile (aM (wB m c n)) p.1 p.2)) (fun y => rec1 (sB (aW m c) (aH m c) ⟨16 * n + (y 0).val, by have : (y 0).val < 16 := (y 0).isLt; omega⟩ ⟨(y 1).val / 16, by have : (y 1).val < 1536 := (y 1).isLt; omega⟩ * sT (aH m c)))
    ?_ _ ?_ (ix2 R j) (coverR _ _ _ _)
  · intro p i l hi hl
    have h := unitSM_at m c n hn p.1 p.2 i l
    refine (unitR_at _ _ _ _).trans ?_
    rw [h, stM_at]
    refine congrArg (fun k => rec1 (sB (aW m c) (aH m c) _ k * sT (aH m c))) (Fin.ext ?_)
    show 8 * p.2.val + l.val / 16 = (128 * p.2.val + l.val) / 16
    omega
  · unfold piecesR
    simp only [shapeCast_self]

/-- The clipped quotients. -/
theorem vM_at (c : Dev nD) (n : ℕ) (hn : n < 35) (g : Fin 4) (t : Fin 12) (r : Fin 64) (l : Fin 128) (R : Fin 8960) (j : Fin 1536)
    (hR : R.val = 256 * n + 64 * g.val + r.val) (hj : j.val = 128 * t.val + l.val) :
    vM (hB m c) (wB m c n) g t (ix2 r l) = kclip (qx (aW m c) (aH m c) R j) := by
  unfold vM qv
  refine (cat4_at (fun b => clipU (wM (wB m c n) (row g b) t) (rM (hB m c) (wB m c n) (row g b) t)) r l).trans ?_
  rw [clip_at, wM_at, wB_apply m c n hn]
  unfold rM
  rw [lM_at, canonR m c n hn]
  unfold qx sBe
  refine congrArg kclip (congrArg₂ (fun x y => x * rec1 (y * sT (aH m c))) (congrArg (aW m c) (congrArg₂ ix2 (Fin.ext ?_) (Fin.ext ?_))) (congrArg₂ (sB (aW m c) (aH m c)) (Fin.ext ?_) (Fin.ext ?_)))
  · show 256 * n + (16 * (4 * g.val + r.val / 16) + r.val % 16) = R.val
    omega
  · show 128 * t.val + l.val = j.val
    omega
  · show 16 * n + (4 * g.val + r.val / 16) = R.val / 16
    omega
  · show (128 * t.val + l.val) / 16 = j.val / 16
    omega

/-- The scales of the weights. -/
theorem sv_at (c : Dev nD) (n : ℕ) (hn : n < 35) (g : Fin 4) (t : Fin 12) (r : Fin 64) (l : Fin 128) (R : Fin 8960) (j : Fin 1536)
    (hR : R.val = 256 * n + 64 * g.val + r.val) (hj : j.val = 128 * t.val + l.val) :
    sv (sM (hB m c) (wB m c n)) g t (ix2 r l) = sBe (aW m c) (aH m c) R j := by
  unfold sv
  refine (cat4_at (fun b => rowsU (sM (hB m c) (wB m c n) (row g b) t)) r l).trans ?_
  rw [rows_at]
  unfold sM
  rw [lM_at, canonS m c n hn]
  unfold sBe
  refine congrArg₂ (sB (aW m c) (aH m c)) (Fin.ext ?_) (Fin.ext ?_)
  · show 16 * n + (4 * g.val + r.val / 16) = R.val / 16
    omega
  · show (128 * t.val + l.val) / 16 = j.val / 16
    omega

/-- The code of a weight. -/
def kC (W : S8960x1536.Idx → EReal) (H : S24.Idx → EReal) (r : Fin 8960) (j : Fin 1536) : BitVec 32 := kcode (kclip (qx W H r j))

theorem kM_at (c : Dev nD) (n : ℕ) (hn : n < 35) (r : Fin 256) (p : Fin 768) :
    kM (hB m c) (wB m c n) (ix2 r p)
      = pair (kC (aW m c) (aH m c) ⟨256 * n + r.val, by omega⟩ ⟨2 * p.val, by omega⟩) (kC (aW m c) (aH m c) ⟨256 * n + r.val, by omega⟩ ⟨2 * p.val + 1, by omega⟩) := by
  have hv := vM_at m c n hn
  have hy : ∃ p' ∈ piecesK (vM (hB m c) (wB m c n)), (ix2 r p : S256x768.Idx) ∈ p'.1.set := coverK _ _
  unfold kM
  generalize vM (hB m c) (wB m c n) = v at *
  refine canon_unit (e := .i8) (s0 := 256) (s1 := 768) (b0 := 64) (b1 := 128) kl (fun p => 64 * p.1.val) (fun p => 128 * p.2.val) (fun p => hCk p.1 p.2)
    (fun p => ckU (q32U (v p.1 ⟨2 * p.2.val, by omega⟩)) (q32U (v p.1 ⟨2 * p.2.val + 1, by omega⟩)))
    (fun y => pair (kC (aW m c) (aH m c) ⟨256 * n + (y 0).val, by have : (y 0).val < 256 := (y 0).isLt; omega⟩ ⟨2 * (y 1).val, by have : (y 1).val < 768 := (y 1).isLt; omega⟩)
      (kC (aW m c) (aH m c) ⟨256 * n + (y 0).val, by have : (y 0).val < 256 := (y 0).isLt; omega⟩ ⟨2 * (y 1).val + 1, by have : (y 1).val < 768 := (y 1).isLt; omega⟩))
    ?_ _ rfl (ix2 r p) hy
  intro p i l hi hl
  refine (ck_at _ _ i l).trans ?_
  refine congrArg₂ (fun x y => pair (kcode x) (kcode y)) ?_ ?_
  · split_ifs with h
    · refine hv _ _ _ _ _ _ ?_ ?_
      · show 256 * n + (64 * p.1.val + i.val) = 256 * n + 64 * p.1.val + i.val
        omega
      · show 2 * (128 * p.2.val + l.val) = 128 * (2 * p.2.val) + 2 * l.val % 128
        omega
    · refine hv _ _ _ _ _ _ ?_ ?_
      · show 256 * n + (64 * p.1.val + i.val) = 256 * n + 64 * p.1.val + i.val
        omega
      · show 2 * (128 * p.2.val + l.val) = 128 * (2 * p.2.val + 1) + 2 * l.val % 128
        omega
  · split_ifs with h
    · refine hv _ _ _ _ _ _ ?_ ?_
      · show 256 * n + (64 * p.1.val + i.val) = 256 * n + 64 * p.1.val + i.val
        omega
      · show 2 * (128 * p.2.val + l.val) + 1 = 128 * (2 * p.2.val) + (2 * l.val + 1) % 128
        omega
    · refine hv _ _ _ _ _ _ ?_ ?_
      · show 256 * n + (64 * p.1.val + i.val) = 256 * n + 64 * p.1.val + i.val
        omega
      · show 2 * (128 * p.2.val + l.val) + 1 = 128 * (2 * p.2.val + 1) + (2 * l.val + 1) % 128
        omega

theorem nM_at (c : Dev nD) (n : ℕ) (hn : n < 35) (j : Fin 1536) (p : Fin 128) :
    nM (hB m c) (wB m c n) (ix2 j p)
      = pair (kC (aW m c) (aH m c) ⟨256 * n + 2 * p.val, by omega⟩ j) (kC (aW m c) (aH m c) ⟨256 * n + (2 * p.val + 1), by omega⟩ j) := by
  have hv := vM_at m c n hn
  have hy : ∃ p' ∈ piecesN (vM (hB m c) (wB m c n)), (ix2 j p : S1536x128.Idx) ∈ p'.1.set := coverN _ _
  unfold nM
  generalize vM (hB m c) (wB m c n) = v at *
  refine canon_unit (e := .i8) (s0 := 1536) (s1 := 128) (b0 := 128) (b1 := 128) ([11, 10, 9, 8, 7, 6, 5, 4, 3, 2, 1, 0] : List (Fin 12)) (fun t => 128 * t.val) (fun _ => 0) hCn
    (fun t => cnU (q32U (v 0 t)) (q32U (v 1 t)) (q32U (v 2 t)) (q32U (v 3 t)))
    (fun y => pair (kC (aW m c) (aH m c) ⟨256 * n + 2 * (y 1).val, by have : (y 1).val < 128 := (y 1).isLt; omega⟩ (y 0))
      (kC (aW m c) (aH m c) ⟨256 * n + (2 * (y 1).val + 1), by have : (y 1).val < 128 := (y 1).isLt; omega⟩ (y 0)))
    ?_ _ rfl (ix2 j p) hy
  intro t i l hi hl
  refine (cn_at (fun g => v g t) i l).trans ?_
  refine congrArg₂ (fun x y => pair (kcode x) (kcode y)) ?_ ?_
  · refine hv _ _ _ _ _ _ ?_ ?_
    · show 256 * n + 2 * (0 + l.val) = 256 * n + 64 * (l.val / 32) + 2 * (l.val % 32)
      omega
    · rfl
  · refine hv _ _ _ _ _ _ ?_ ?_
    · show 256 * n + (2 * (0 + l.val) + 1) = 256 * n + 64 * (l.val / 32) + (2 * (l.val % 32) + 1)
      omega
    · rfl

theorem dM_at (c : Dev nD) (n : ℕ) (hn : n < 35) (r : Fin 256) (j : Fin 1536) :
    dM (hB m c) (wB m c n) (ix2 r j)
      = kval (kclip (qx (aW m c) (aH m c) ⟨256 * n + r.val, by omega⟩ j)) * sBe (aW m c) (aH m c) ⟨256 * n + r.val, by omega⟩ j := by
  have hv := vM_at m c n hn
  have hs := sv_at m c n hn
  have hy : ∃ p' ∈ piecesD (vM (hB m c) (wB m c n)) (sv (sM (hB m c) (wB m c n))), (ix2 r j : S256x1536.Idx) ∈ p'.1.set := coverD _ _ _
  unfold dM
  generalize vM (hB m c) (wB m c n) = v at *
  generalize sv (sM (hB m c) (wB m c n)) = s at *
  refine canon_unit (e := .bf16) (s0 := 256) (s1 := 1536) (b0 := 64) (b1 := 128) dl (fun p => 64 * p.1.val) (fun p => 128 * p.2.val) (fun p => hD p.1 p.2)
    (fun p => deqU (v p.1 p.2) (s p.1 p.2))
    (fun y => kval (kclip (qx (aW m c) (aH m c) ⟨256 * n + (y 0).val, by have : (y 0).val < 256 := (y 0).isLt; omega⟩ (y 1))) * sBe (aW m c) (aH m c) ⟨256 * n + (y 0).val, by have : (y 0).val < 256 := (y 0).isLt; omega⟩ (y 1))
    ?_ _ rfl (ix2 r j) hy
  intro p i l hi hl
  refine (deq_at _ _ i l).trans ?_
  refine congrArg₂ (fun x y => kval x * y) ?_ ?_
  · refine hv _ _ _ _ _ _ ?_ rfl
    show 256 * n + (64 * p.1.val + i.val) = 256 * n + 64 * p.1.val + i.val
    omega
  · refine hs _ _ _ _ _ _ ?_ rfl
    show 256 * n + (64 * p.1.val + i.val) = 256 * n + 64 * p.1.val + i.val
    omega

end Cert.KernelIdeal.Gen
-- ==== Proof.YVal.lean ====
/- The kernel's product over the extended reals, and its three arrays element by element. -/
module

public import proofs.«01_k».proof.Proof.Codes

@[expose] public section

set_option maxRecDepth 16384

noncomputable section

namespace Cert.KernelIdeal.Gen

open Cert.KernelIdeal Idealize.ShloMosaic Idealize.ShloMosaic.TcCoe Idealize.SL.Sem Cert.KernelIdeal.U Cert.Q Idealize.ShloMosaic.StableHlo

variable (m : (ℓ : Loc nD τ sig) → Buf (Elt Ideal) ℓ)

/-- The activations. -/
abbrev aX (c : Dev nD) : S6x128x1536.Idx → EReal := m ((c : Thread nD τ).loc main_arg0)

/-- The kernel's dot, as a sum over the columns. -/
theorem dot_k (A : FVec Ideal S768x1536 .bf16) (B : FVec Ideal S256x1536 .bf16) (i : Fin 768) (r : Fin 256) :
    matmul (φ₁ := .bf16) (φ₂ := .bf16) dot_S768x1536_S256x1536_S768x256_1_1_0_0_n_n none A B (constant S768x256 .f32 0x00000000#32) (ix2 i r) = ∑ k : Fin 1536, A (ix2 i k) * B (ix2 r k) := by
  show FloatOps.matmul _ none A B _ (ix2 i r) = _
  rw [Ideal.matmul_constant_zero_apply, ← Equiv.sum_comp (Idealize.ShloMosaic.ValueIdx.contrEquiv1 dot_S768x1536_S256x1536_S768x256_1_1_0_0_n_n 1536 rfl rfl).symm]
  refine Finset.sum_congr rfl fun k _ => ?_
  have ck := Idealize.ShloMosaic.ValueIdx.contrEquiv1_symm_val dot_S768x1536_S256x1536_S768x256_1_1_0_0_n_n 1536 rfl rfl k
  refine congrArg₂ (fun x y => A x * B y) (funext fun a => Fin.ext ?_) (funext fun a => Fin.ext ?_)
  · match a with
    | ⟨0, _⟩ => rfl
    | ⟨1, _⟩ => exact ck
  · match a with
    | ⟨0, _⟩ => rfl
    | ⟨1, _⟩ => exact ck

theorem yU_at (st : FVec Ideal S8x128 .f32) (x : Vec Ideal S768x1536 .bf16) (w : Vec Ideal S256x1536 .bf16) (i : Fin 768) (r : Fin 256) :
    (yU st x w : S768x256.Idx → EReal) (ix2 i r) = (∑ k : Fin 1536, x (ix2 i k) * w (ix2 r k)) * st (ix2 0 0) := by
  have h := dot_k x w i r
  unfold yU k0_pay1585
  refine (congrArg₂ (fun x y : EReal => x * y) h (?_ : _ = st (ix2 0 0))).trans rfl
  pointwise

/-- The activations' block. -/
theorem V_main_v0 (c : Dev nD) : V m c main_v0 = shapeCast S768x1536 (m ((c : Thread nD τ).loc main_arg0)) shapeCasts_S6x128x1536_S768x1536 := by
  show StableHlo.after hostOps0 (fun b => m (c, b)) (Proc.devRef .tc main_v0) = _
  simp only [Gen.hostOps0, List.flatten_cons, List.flatten_nil, List.append_nil, List.cons_append, List.nil_append]
  after_results <;> rfl

theorem x_k (X : FVec Ideal S6x128x1536 .bf16) (i : Fin 768) (k : Fin 1536) :
    shapeCast S768x1536 X shapeCasts_S6x128x1536_S768x1536 (ix2 i k) = X (ix3 ⟨i.val / 128, by omega⟩ ⟨i.val % 128, by omega⟩ k) := by
  pointwise

theorem xB_at (c : Dev nD) (i : Fin 768) (k : Fin 1536) :
    (k0_pay4 (xB m c) : S768x1536.Idx → EReal) (ix2 i k) = aX m c (ix3 ⟨i.val / 128, by omega⟩ ⟨i.val % 128, by omega⟩ k) := by
  unfold k0_pay4
  rw [shapeCast_self, shapeCast_self]
  have h : (xB m c : S768x1536.Idx → EReal) (ix2 i k) = V m c main_v0 (ix2 i k) := by
    unfold xB iblk
    refine congrArg (V m c main_v0) (funext fun a => Fin.ext ?_)
    match a with
    | ⟨0, _⟩ =>
      refine (Pipeline.Window.rect_emb_val win0_1 (pt0 : Fin grid0.N) (ix2 i k) 0).trans ?_
      rw [show win0_1.index (pt0 : Fin grid0.N) 0 = 0 by decide +kernel]; show 0 * 768 + i.val = i.val; omega
    | ⟨1, _⟩ =>
      refine (Pipeline.Window.rect_emb_val win0_1 (pt0 : Fin grid0.N) (ix2 i k) 1).trans ?_
      rw [show win0_1.index (pt0 : Fin grid0.N) 1 = 0 by decide +kernel]; show 0 * 1536 + k.val = k.val; omega
  refine h.trans ?_
  rw [V_main_v0]
  exact x_k _ i k

/-- The product. -/
theorem y_at (c : Dev nD) (i : Fin 768) (r : Fin 8960) :
    ((dats m 0 c).arrAt 3 cfg0.N : S768x8960.Idx → EReal) (ix2 i r)
      = (∑ k : Fin 1536, aX m c (ix3 ⟨i.val / 128, by omega⟩ ⟨i.val % 128, by omega⟩ k) * (kval (kclip (qx (aW m c) (aH m c) r k)) * sBe (aW m c) (aH m c) r k)) * sT (aH m c) := by
  rw [arr3]
  show yM (hB m c) (k0_pay4 (xB m c)) (wB m c (r.val / 256)) (ix2 i ⟨r.val % 256, _⟩) = _
  unfold yM
  refine (yU_at _ _ _ _ _).trans ?_
  rw [stM_at]
  refine congrArg (fun x : EReal => x * sT (aH m c)) (Finset.sum_congr rfl fun k _ => ?_)
  have e : (⟨256 * (r.val / 256) + r.val % 256, by omega⟩ : Fin 8960) = r := Fin.ext (by show 256 * (r.val / 256) + r.val % 256 = r.val; omega)
  have h := dM_at m c (r.val / 256) (by omega) ⟨r.val % 256, by omega⟩ k
  refine congrArg₂ (fun x y : EReal => x * y) (xB_at m c i k) (h.trans ?_)
  show kval (kclip (qx (aW m c) (aH m c) ⟨256 * (r.val / 256) + r.val % 256, _⟩ k)) * sBe (aW m c) (aH m c) ⟨256 * (r.val / 256) + r.val % 256, _⟩ k = _
  rw [e]

/-- The packed codes, along the columns. -/
theorem ck_arr (c : Dev nD) (r : Fin 8960) (p : Fin 768) :
    ((dats m 0 c).arrAt 4 cfg0.N : S8960x768.Idx → BitVec 8) (ix2 r p) = pair (kC (aW m c) (aH m c) r ⟨2 * p.val, by omega⟩) (kC (aW m c) (aH m c) r ⟨2 * p.val + 1, by omega⟩) := by
  rw [arr4]
  refine (kM_at m c (r.val / 256) (by omega) ⟨r.val % 256, by omega⟩ p).trans ?_
  have e : (⟨256 * (r.val / 256) + r.val % 256, by omega⟩ : Fin 8960) = r := Fin.ext (by show 256 * (r.val / 256) + r.val % 256 = r.val; omega)
  show pair (kC (aW m c) (aH m c) ⟨256 * (r.val / 256) + r.val % 256, _⟩ _) (kC (aW m c) (aH m c) ⟨256 * (r.val / 256) + r.val % 256, _⟩ _) = _
  rw [e]

/-- The packed codes, along the rows. -/
theorem cn_arr (c : Dev nD) (j : Fin 1536) (p : Fin 4480) :
    ((dats m 0 c).arrAt 5 cfg0.N : S1536x4480.Idx → BitVec 8) (ix2 j p) = pair (kC (aW m c) (aH m c) ⟨2 * p.val, by omega⟩ j) (kC (aW m c) (aH m c) ⟨2 * p.val + 1, by omega⟩ j) := by
  rw [arr5]
  refine (nM_at m c (p.val / 128) (by omega) j ⟨p.val % 128, by omega⟩).trans ?_
  refine congrArg₂ (fun x y => pair (kC (aW m c) (aH m c) x j) (kC (aW m c) (aH m c) y j)) (Fin.ext ?_) (Fin.ext ?_)
  · show 256 * (p.val / 128) + 2 * (p.val % 128) = 2 * p.val
    omega
  · show 256 * (p.val / 128) + (2 * (p.val % 128) + 1) = 2 * p.val + 1
    omega

end Cert.KernelIdeal.Gen
-- ==== Proof.RefCodes.lean ====
/- The reference's codes, products and quotients over the extended reals, at an element. -/
module

public import proofs.«01_k».proof.Proof.RefScales
public import proofs.«01_k».proof.Proof.Quot
public import Idealize.ShloMosaic.Lib.Pipeline.ValueKit
public import proofs.«01_k».proof.Proof.Words

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo Cert.Q

variable (m : (ℓ : Loc nD τ sig) → Buf (Elt Ideal) ℓ)

/-- The reference's arguments. -/
abbrev rW (c : Dev nD) : S8960x1536.Idx → EReal := m ((c.tc : Thread nD τ).loc main_arg1)
abbrev rX (c : Dev nD) : S6x128x1536.Idx → EReal := m ((c.tc : Thread nD τ).loc main_arg0)
abbrev rH (c : Dev nD) : S24.Idx → EReal := m ((c.tc : Thread nD τ).loc main_arg2)

/-- What the widening region finds. -/
theorem V_v13 (c : Dev nD) (R : Fin 560) (C : Fin 96) : (V m c (Pipeline.arrRef spec0 0) : S560x96.Idx → EReal) (ix2 R C) = sB (rW m c) (rH m c) R C := by
  have h := ((Pipeline.withArrays_arr spec0 Gen.launch0.win.arr_inj c (Gen.V0 m c) _ 0).trans (((Gen.dats m 0 c).arrAt_in 0 rfl _).trans (Gen.A_eq m c 0))).symm.trans (exit_main_v13 m c)
  exact (congrFun h (ix2 R C)).trans (sb_ref _ _ R C)

theorem iblk_v13 (c : Dev nD) (t : Fin cfg0.N) (R : Fin 560) (C : Fin 96) : (iblk m c 0 t : S560x96.Idx → EReal) (ix2 R C) = sB (rW m c) (rH m c) R C := by
  rw [← V_v13]
  unfold iblk
  refine congrArg (V m c (Pipeline.arrRef spec0 0)) (funext fun a => Fin.ext ?_)
  match a with
  | ⟨0, _⟩ => show 0 + 1 * R.val = R.val; omega
  | ⟨1, _⟩ => show 0 + 1 * C.val = C.val; omega

theorem out1_at (x : Vec Ideal S560x96 .fp8e4m3) (y : S560x96.Idx) : (out0_1 x : S560x96.Idx → EReal) y = (x : S560x96.Idx → EReal) y := by
  unfold out0_1
  refine View.canon_apply_of_pieces (e := .f32) (Val := Elt Ideal) (fun y => (x : S560x96.Idx → EReal) y) _ ?_ y (cover0_1 _ y)
  intro p hp z
  obtain rfl := List.mem_singleton.mp hp
  unfold k0_pay1
  rw [shapeCast_self]
  rfl

theorem out2_at (x : Vec Ideal S560x96 .fp8e4m3) (y : S560x96.Idx) : (out0_2 x : S560x96.Idx → EReal) y = (x : S560x96.Idx → EReal) y := by
  unfold out0_2
  refine View.canon_apply_of_pieces (e := .bf16) (Val := Elt Ideal) (fun y => (x : S560x96.Idx → EReal) y) _ ?_ y (cover0_2 _ y)
  intro p hp z
  obtain rfl := List.mem_singleton.mp hp
  unfold k0_pay2
  rw [shapeCast_self]
  rfl

/-- The only grid point. -/
def ptO : Fin cfg0.N := (⟨0, by decide⟩ : Fin grid0.N)

theorem v14_0_at (c : Dev nD) (R : Fin 560) (C : Fin 96) : (exitV m c (Proc.devRef .tc main_v14_0) : S560x96.Idx → EReal) (ix2 R C) = sB (rW m c) (rH m c) R C := by
  rw [exit_main_v14_0]
  unfold reg_main_v14_0
  have h : (Gen.dats m 0 c).arrAt 1 cfg0.N = out0_1 (iblk m c 0 ptO) := by
    refine (Gen.dats m 0 c).arrAt_eq_of_after_last 1 ptO (by decide +kernel) _ fun j => ?_
    rw [after0_1]
    generalize out0_1 (iblk m c 0 ptO) = g
    rfl
  rw [h]
  exact (out1_at _ _).trans (iblk_v13 m c _ R C)

theorem v14_1_at (c : Dev nD) (R : Fin 560) (C : Fin 96) : (exitV m c (Proc.devRef .tc main_v14_1) : S560x96.Idx → EReal) (ix2 R C) = sB (rW m c) (rH m c) R C := by
  rw [exit_main_v14_1]
  unfold reg_main_v14_1
  have h : (Gen.dats m 0 c).arrAt 2 cfg0.N = out0_2 (iblk m c 0 ptO) := by
    refine (Gen.dats m 0 c).arrAt_eq_of_after_last 2 ptO (by decide +kernel) _ fun j => ?_
    rw [after0_2]
    generalize out0_2 (iblk m c 0 ptO) = g
    rfl
  rw [h]
  exact (out2_at _ _).trans (iblk_v13 m c _ R C)

theorem d_ref (B : FVec Ideal S560x96 .f32) (t : FVec Ideal S_ .f32) (r : Fin 8960) (j : Fin 1536) :
    shapeCast S8960x1536 (broadcastInDim S560x16x96x16 ![0, 1, 2, 3] bcast_S560x1x96x1_S560x16x96x16_0_1_2_3 (broadcastInDim S560x1x96x1 ![0, 2] bcast_S560x96_S560x1x96x1_0_2 (mulf B (broadcastInDim S560x96 ![] bcast_S_S560x96 t)))) shapeCasts_S560x16x96x16_S8960x1536 (ix2 r j)
      = B (ix2 ⟨r.val / 16, by omega⟩ ⟨j.val / 16, by omega⟩) * t ix0 := by
  pointwise

theorem p_ref (B : FVec Ideal S560x96 .bf16) (r : Fin 8960) (j : Fin 1536) :
    shapeCast S8960x1536 (broadcastInDim S560x16x96x16 ![0, 1, 2, 3] bcast_S560x1x96x1_S560x16x96x16_0_1_2_3 (broadcastInDim S560x1x96x1 ![0, 2] bcast_S560x96_S560x1x96x1_0_2 B)) shapeCasts_S560x16x96x16_S8960x1536 (ix2 r j)
      = B (ix2 ⟨r.val / 16, by omega⟩ ⟨j.val / 16, by omega⟩) := by
  pointwise

/-- The dequantisation scales. -/
theorem v19_at (c : Dev nD) (r : Fin 8960) (j : Fin 1536) : (res_main_v19 (exitV m c) : S8960x1536.Idx → EReal) (ix2 r j) = sBe (rW m c) (rH m c) r j * sT (rH m c) := by
  unfold res_main_v19
  refine (d_ref _ _ r j).trans ?_
  rw [v14_0_at, exit_main_v7]
  exact congrArg _ (st_ref _ _)

/-- The clipped quotients. -/
theorem v25_at (c : Dev nD) (r : Fin 8960) (j : Fin 1536) : (res_main_v25 (exitV m c) : S8960x1536.Idx → EReal) (ix2 r j) = rclip (qx (rW m c) (rH m c) r j) := by
  have h := v19_at m c r j
  have hw := exit_main_v0 m c
  have hq := quo_qx (rW m c) (rH m c) r j
  unfold res_main_v25 res_main_v21
  rw [hw]
  rw [← hq, ← h]
  generalize (res_main_v19 (exitV m c)) = d at *
  pointwise
  unfold rclip quo
  rw [sel_ogt, sel_ogt, Ideal.ofBits_zero_f32]
  exact congrArg (fun z : EReal => min (Ideal.ofBits .f32 0x40C00000#32) (max (Ideal.ofBits .f32 0xC0C00000#32) z)) (if_congr Iff.rfl rfl Ideal.ofBits_zero_f32)

theorem v43_at (c : Dev nD) (r : Fin 8960) (j : Fin 1536) : (res_main_v43 (exitV m c) : S8960x1536.Idx → EReal) (ix2 r j) = rq (mag (rclip (qx (rW m c) (rH m c) r j))) := by
  rw [← v25_at m c r j]
  unfold res_main_v43 res_main_v26
  generalize (res_main_v25 (exitV m c)) = v
  pointwise
  unfold rq
  simp only [sel_olt]
  rfl

theorem v60_at (c : Dev nD) (r : Fin 8960) (j : Fin 1536) : res_main_v60 (exitV m c) (ix2 r j) = Ideal.cmp .olt (rclip (qx (rW m c) (rH m c) r j)) (Ideal.ofBits .f32 0x00000000#32) := by
  rw [← v25_at m c r j]
  unfold res_main_v60
  generalize (res_main_v25 (exitV m c)) = v
  pointwise

/-- The codes. -/
theorem v64_at (c : Dev nD) (r : Fin 8960) (j : Fin 1536) : res_main_v64 (exitV m c) (ix2 r j) = rcode (rclip (qx (rW m c) (rH m c) r j)) := by
  have h1 := v43_at m c r j
  have h2 := v60_at m c r j
  unfold res_main_v64
  generalize (res_main_v43 (exitV m c)) = v at *
  generalize (res_main_v60 (exitV m c)) = s at *
  pointwise
  rw [h2, h1]
  unfold rcode ridx
  simp only [sel_olt]
  rfl

/-- The packed codes, along the columns. -/
theorem v70_at (c : Dev nD) (r : Fin 8960) (p : Fin 768) :
    trunci 8 (ori (Host.slice S8960x768 ![0, 0] ![1, 2] (res_main_v64 (exitV m c)) slicesBy_S8960x1536_S8960x768_0s1_0s2) (Host.shli (Host.slice S8960x768 ![0, 1] ![1, 2] (res_main_v64 (exitV m c)) slicesBy_S8960x1536_S8960x768_0s1_1s2) (broadcastInDim S8960x768 ![] bcast_S_S8960x768 (constantI S_ 32 4#32)))) natLt_8_32 (ix2 r p)
      = pair (rcode (rclip (qx (rW m c) (rH m c) r ⟨2 * p.val, by omega⟩))) (rcode (rclip (qx (rW m c) (rH m c) r ⟨2 * p.val + 1, by omega⟩))) := by
  have h1 := v64_at m c r ⟨2 * p.val, by omega⟩
  have h2 := v64_at m c r ⟨2 * p.val + 1, by omega⟩
  rw [← h1, ← h2]
  generalize (res_main_v64 (exitV m c)) = v
  pointwise
  rw [show (⟨1 + 2 * p.val, by omega⟩ : Fin 1536) = ⟨2 * p.val + 1, by omega⟩ from Fin.ext (Nat.add_comm _ _)]
  rfl

/-- The packed codes, along the rows. -/
theorem v77_at (c : Dev nD) (j : Fin 1536) (p : Fin 4480) :
    trunci 8 (transpose S1536x4480 [1, 0] (ori (Host.slice S4480x1536 ![0, 0] ![2, 1] (res_main_v64 (exitV m c)) slicesBy_S8960x1536_S4480x1536_0s2_0s1) (Host.shli (Host.slice S4480x1536 ![1, 0] ![2, 1] (res_main_v64 (exitV m c)) slicesBy_S8960x1536_S4480x1536_1s2_0s1) (broadcastInDim S4480x1536 ![] bcast_S_S4480x1536 (constantI S_ 32 4#32)))) transposes_S4480x1536_S1536x4480_1_0) natLt_8_32 (ix2 j p)
      = pair (rcode (rclip (qx (rW m c) (rH m c) ⟨2 * p.val, by omega⟩ j))) (rcode (rclip (qx (rW m c) (rH m c) ⟨2 * p.val + 1, by omega⟩ j))) := by
  have h1 := v64_at m c ⟨2 * p.val, by omega⟩ j
  have h2 := v64_at m c ⟨2 * p.val + 1, by omega⟩ j
  rw [← h1, ← h2]
  generalize (res_main_v64 (exitV m c)) = v
  pointwise
  rw [show (⟨1 + 2 * p.val, by omega⟩ : Fin 8960) = ⟨2 * p.val + 1, by omega⟩ from Fin.ext (Nat.add_comm _ _)]
  rfl

/-- The dequantised weights. -/
theorem wd_at (c : Dev nD) (r : Fin 8960) (j : Fin 1536) :
    (mulf (truncf .bf16 (select (res_main_v60 (exitV m c)) (Host.negf (res_main_v43 (exitV m c))) (res_main_v43 (exitV m c))) bitsLt_bf16_f32) (shapeCast S8960x1536 (broadcastInDim S560x16x96x16 ![0, 1, 2, 3] bcast_S560x1x96x1_S560x16x96x16_0_1_2_3 (broadcastInDim S560x1x96x1 ![0, 2] bcast_S560x96_S560x1x96x1_0_2 ((exitV m c) (Proc.devRef .tc main_v14_1)))) shapeCasts_S560x16x96x16_S8960x1536) : S8960x1536.Idx → EReal) (ix2 r j)
      = rval (rclip (qx (rW m c) (rH m c) r j)) * sBe (rW m c) (rH m c) r j := by
  have h1 := v43_at m c r j
  have h2 := v60_at m c r j
  have h3 := p_ref ((exitV m c) (Proc.devRef .tc main_v14_1)) r j
  rw [v14_1_at] at h3
  generalize (shapeCast S8960x1536 (broadcastInDim S560x16x96x16 ![0, 1, 2, 3] bcast_S560x1x96x1_S560x16x96x16_0_1_2_3 (broadcastInDim S560x1x96x1 ![0, 2] bcast_S560x96_S560x1x96x1_0_2 ((exitV m c) (Proc.devRef .tc main_v14_1)))) shapeCasts_S560x16x96x16_S8960x1536) = B at *
  generalize (res_main_v43 (exitV m c)) = v at *
  generalize (res_main_v60 (exitV m c)) = s at *
  pointwise
  rw [h2, h1, h3]
  rfl

/-- The reference's dot, as a sum over the columns. -/
theorem dot_ref (A : FVec Ideal S768x1536 .bf16) (B : FVec Ideal S8960x1536 .bf16) (i : Fin 768) (r : Fin 8960) :
    Host.dotGeneral (φ₁ := .bf16) (φ₂ := .bf16) dot_S768x1536_S8960x1536_S768x8960_1_1_0_0_n_n none A B (ix2 i r) = ∑ k : Fin 1536, A (ix2 i k) * B (ix2 r k) := by
  show FloatOps.dotGeneral _ none _ A B (ix2 i r) = _
  rw [Ideal.dotGeneral_apply, ← Equiv.sum_comp (Idealize.ShloMosaic.ValueIdx.contrEquiv1 dot_S768x1536_S8960x1536_S768x8960_1_1_0_0_n_n 1536 rfl rfl).symm]
  refine Finset.sum_congr rfl fun k _ => ?_
  have ck := Idealize.ShloMosaic.ValueIdx.contrEquiv1_symm_val dot_S768x1536_S8960x1536_S768x8960_1_1_0_0_n_n 1536 rfl rfl k
  refine congrArg₂ (fun x y => A x * B y) (funext fun a => Fin.ext ?_) (funext fun a => Fin.ext ?_)
  · match a with
    | ⟨0, _⟩ => rfl
    | ⟨1, _⟩ => exact ck
  · match a with
    | ⟨0, _⟩ => rfl
    | ⟨1, _⟩ => exact ck

/-- The activations, flattened. -/
theorem x_ref (X : FVec Ideal S6x128x1536 .bf16) (i : Fin 768) (k : Fin 1536) :
    shapeCast S768x1536 X shapeCasts_S6x128x1536_S768x1536 (ix2 i k) = X (ix3 ⟨i.val / 128, by omega⟩ ⟨i.val % 128, by omega⟩ k) := by
  pointwise

/-- The product. -/
theorem v89_at (c : Dev nD) (i : Fin 768) (r : Fin 8960) :
    (truncf .bf16 (mulf (Host.dotGeneral (φ₁ := .bf16) (φ₂ := .bf16) dot_S768x1536_S8960x1536_S768x8960_1_1_0_0_n_n none (shapeCast S768x1536 ((exitV m c) (Proc.devRef .tc main_arg0) : FVec Ideal S6x128x1536 .bf16) shapeCasts_S6x128x1536_S768x1536) (mulf (truncf .bf16 (select (res_main_v60 (exitV m c)) (Host.negf (res_main_v43 (exitV m c))) (res_main_v43 (exitV m c))) bitsLt_bf16_f32) (shapeCast S8960x1536 (broadcastInDim S560x16x96x16 ![0, 1, 2, 3] bcast_S560x1x96x1_S560x16x96x16_0_1_2_3 (broadcastInDim S560x1x96x1 ![0, 2] bcast_S560x96_S560x1x96x1_0_2 ((exitV m c) (Proc.devRef .tc main_v14_1)))) shapeCasts_S560x16x96x16_S8960x1536))) (broadcastInDim S768x8960 ![] bcast_S_S768x8960 ((exitV m c) (Proc.devRef .tc main_v7)))) bitsLt_bf16_f32 : S768x8960.Idx → EReal) (ix2 i r)
      = (∑ k : Fin 1536, rX m c (ix3 ⟨i.val / 128, by omega⟩ ⟨i.val % 128, by omega⟩ k) * (rval (rclip (qx (rW m c) (rH m c) r k)) * sBe (rW m c) (rH m c) r k)) * sT (rH m c) := by
  have h := wd_at m c r
  have hs := st_ref (rH m c) ix0
  rw [exit_main_v7, exit_main_arg0]
  generalize (mulf (truncf .bf16 (select (res_main_v60 (exitV m c)) (Host.negf (res_main_v43 (exitV m c))) (res_main_v43 (exitV m c))) bitsLt_bf16_f32) (shapeCast S8960x1536 (broadcastInDim S560x16x96x16 ![0, 1, 2, 3] bcast_S560x1x96x1_S560x16x96x16_0_1_2_3 (broadcastInDim S560x1x96x1 ![0, 2] bcast_S560x96_S560x1x96x1_0_2 ((exitV m c) (Proc.devRef .tc main_v14_1)))) shapeCasts_S560x16x96x16_S8960x1536)) = D at *
  have hd := dot_ref (shapeCast S768x1536 (m ((c.tc : Thread nD τ).loc main_arg0)) shapeCasts_S6x128x1536_S768x1536) D i r
  refine (congrArg₂ (fun x y : EReal => x * y) hd hs).trans ?_
  refine congrArg (fun x : EReal => x * sT (rH m c)) (Finset.sum_congr rfl fun k _ => ?_)
  exact congrArg₂ (fun x y : EReal => x * y) (x_ref _ i k) (h k)

end Cert.ReferenceIdeal.Value
-- ==== Proof.Mask.lean ====
/- Where the claim is made: the quotients that 2^-126 moves over no boundary, read at an element of the three masks. -/
module

public import proofs.«01_k».proof.On_off_ties
public import proofs.«01_k».proof.Proof.RefCodes

@[expose] public section

set_option maxRecDepth 16384

noncomputable section

namespace Cert.On_off_ties

open Cert.On_off_ties Cert.On_off_ties.Facts Idealize.ShloMosaic Idealize.ShloMosaic.StableHlo Cert.Q

variable [Facts]

/-- The quotients that 2^-126 does not move over a boundary on the lower side. -/
def uptoV {F : FTy → Type} [FloatOps F] (v u : FVec F S8960x1536 .f32) (t : BitVec 32) : IVec S8960x1536 1 :=
  ori (cmpf .ole u (broadcastInDim S8960x1536 ![] bcast_S_S8960x1536 (constant S_ .f32 t))) (cmpf .ogt v (broadcastInDim S8960x1536 ![] bcast_S_S8960x1536 (constant S_ .f32 t)))

/-- The quotients that 2^-126 does not move over a boundary on the upper side. -/
def belowV {F : FTy → Type} [FloatOps F] (v u : FVec F S8960x1536 .f32) (t : BitVec 32) : IVec S8960x1536 1 :=
  ori (cmpf .olt u (broadcastInDim S8960x1536 ![] bcast_S_S8960x1536 (constant S_ .f32 t))) (cmpf .oge v (broadcastInDim S8960x1536 ![] bcast_S_S8960x1536 (constant S_ .f32 t)))

/-- The quotients moved up by 2^-126. -/
def upV {F : FTy → Type} [FloatOps F] (v : FVec F S8960x1536 .f32) : FVec F S8960x1536 .f32 :=
  addf v (broadcastInDim S8960x1536 ![] bcast_S_S8960x1536 (constant S_ .f32 0x00800000#32))

/-- The quotients. -/
def quoV {F : FTy → Type} [FloatOps F] (w d : FVec F S8960x1536 .f32) : FVec F S8960x1536 .f32 :=
  select (cmpf .ogt d (broadcastInDim S8960x1536 ![] bcast_S_S8960x1536 (constant S_ .f32 0x00000000#32)))
    (Host.divf w (select (cmpf .ogt d (broadcastInDim S8960x1536 ![] bcast_S_S8960x1536 (constant S_ .f32 0x00000000#32))) d (broadcastInDim S8960x1536 ![] bcast_S_S8960x1536 (constant S_ .f32 0x3F800000#32))))
    (broadcastInDim S8960x1536 ![] bcast_S_S8960x1536 (constant S_ .f32 0x00000000#32))

/-- The clear quotients. -/
def clr {F : FTy → Type} [FloatOps F] (v u : FVec F S8960x1536 .f32) : IVec S8960x1536 1 :=
  andi (andi (andi (andi (andi (andi (andi (andi (andi (andi (andi (andi (andi (andi (belowV v u 0x00000000#32) (uptoV v u 0x3E800000#32)) (uptoV v u 0x3FA00000#32)) (uptoV v u 0x40200000#32)) (uptoV v u 0x40A00000#32)) (uptoV v u 0xBF400000#32)) (uptoV v u 0xBFE00000#32)) (uptoV v u 0xC0600000#32)) (belowV v u 0x3F400000#32)) (belowV v u 0x3FE00000#32)) (belowV v u 0x40600000#32)) (belowV v u 0xBE800000#32)) (belowV v u 0xBFA00000#32)) (belowV v u 0xC0200000#32)) (belowV v u 0xC0A00000#32)

section Parts
variable {F : FTy → Type} [FloatOps F]

/-- The three masks of the clear quotients, and the full ones. -/
def out (v : IVec S8960x1536 1) : IVec S768x8960 1 × IVec S8960x768 1 × IVec S1536x4480 1 × IVec S560x96 1 × IVec S1 1 × IVec S1 1 :=
  (broadcastInDim S768x8960 ![0, 1] bcast_S1x8960_S768x8960_0_1 (broadcastInDim S1x8960 ![1] bcast_S8960_S1x8960_1 (Host.reduce IntOp.andi v (constantI S_ 1 1#1) reducesTo_S8960x1536_S8960_d1 h_S_)),
    andi (Host.slice S8960x768 ![0, 0] ![1, 2] v slicesBy_S8960x1536_S8960x768_0s1_0s2) (Host.slice S8960x768 ![0, 1] ![1, 2] v slicesBy_S8960x1536_S8960x768_0s1_1s2),
    transpose S1536x4480 [1, 0] (andi (Host.slice S4480x1536 ![0, 0] ![2, 1] v slicesBy_S8960x1536_S4480x1536_0s2_0s1) (Host.slice S4480x1536 ![1, 0] ![2, 1] v slicesBy_S8960x1536_S4480x1536_1s2_0s1)) transposes_S4480x1536_S1536x4480_1_0,
    broadcastInDim S560x96 ![] bcast_S_S560x96 (constantI S_ 1 1#1), broadcastInDim S1 ![] bcast_S_S1 (constantI S_ 1 1#1), broadcastInDim S1 ![] bcast_S_S1 (constantI S_ 1 1#1))

theorem part6_eq (v u : FVec F S8960x1536 .f32) (a o : IVec S8960x1536 1) :
    fn_part6 (F := F) v u a o = out (andi (andi a o) (belowV v u 0xC0A00000#32)) := rfl

theorem part5_eq (v u : FVec F S8960x1536 .f32) (a o : IVec S8960x1536 1) :
    fn_part5 (F := F) v u a o = fn_part6 (F := F) v u (andi (andi (andi a o) (belowV v u 0xBE800000#32)) (belowV v u 0xBFA00000#32)) (belowV v u 0xC0200000#32) := rfl

theorem part4_eq (v u : FVec F S8960x1536 .f32) (a o : IVec S8960x1536 1) :
    fn_part4 (F := F) v u a o = fn_part5 (F := F) v u (andi (andi (andi a o) (belowV v u 0x3F400000#32)) (belowV v u 0x3FE00000#32)) (belowV v u 0x40600000#32) := rfl

theorem part3_eq (v u : FVec F S8960x1536 .f32) (a o : IVec S8960x1536 1) :
    fn_part3 (F := F) v u a o = fn_part4 (F := F) v u (andi (andi (andi a o) (uptoV v u 0xBF400000#32)) (uptoV v u 0xBFE00000#32)) (uptoV v u 0xC0600000#32) := rfl

theorem part2_eq (v u : FVec F S8960x1536 .f32) (a o : IVec S8960x1536 1) :
    fn_part2 (F := F) v u a o = fn_part3 (F := F) v u (andi (andi (andi a o) (uptoV v u 0x3FA00000#32)) (uptoV v u 0x40200000#32)) (uptoV v u 0x40A00000#32) := rfl

theorem part1_eq (w d : FVec F S8960x1536 .f32) :
    fn_part1 (F := F) w d (cmpf .ogt d (broadcastInDim S8960x1536 ![] bcast_S_S8960x1536 (constant S_ .f32 0x00000000#32)))
      = fn_part2 (F := F) (quoV w d) (upV (quoV w d)) (belowV (quoV w d) (upV (quoV w d)) 0x00000000#32) (uptoV (quoV w d) (upV (quoV w d)) 0x3E800000#32) := rfl

end Parts

/-- The scales of the weights. -/
def dq (main_arg1 : FVec Ideal S8960x1536 .bf16) (main_arg2 : FVec Ideal S24 .f32) : FVec Ideal S8960x1536 .f32 :=
  shapeCast S8960x1536 (broadcastInDim S560x16x96x16 ![0, 1, 2, 3] bcast_S560x1x96x1_S560x16x96x16_0_1_2_3 (broadcastInDim S560x1x96x1 ![0, 2] bcast_S560x96_S560x1x96x1_0_2 (mulf
    (minimumf (Host.divf (Host.reduce FloatOps.maximumf (shapeCast S560x16x96x16 (Host.absf (extf .f32 main_arg1 bitsLt_bf16_f32)) shapeCasts_S8960x1536_S560x16x96x16) (constant S_ .f32 0xFF800000#32) reducesTo_S560x16x96x16_S560x96_d1_3 h_S_) (broadcastInDim S560x96 ![] bcast_S_S560x96 (mulf (Host.divf (Host.reduce FloatOps.maximumf main_arg2 (constant S_ .f32 0xFF800000#32) reducesTo_S24_S_d0 h_S_) (constant S_ .f32 0x45280000#32)) (constant S_ .f32 0x40C00000#32)))) (broadcastInDim S560x96 ![] bcast_S_S560x96 (constant S_ .f32 0x43E00000#32)))
    (broadcastInDim S560x96 ![] bcast_S_S560x96 (Host.divf (Host.reduce FloatOps.maximumf main_arg2 (constant S_ .f32 0xFF800000#32) reducesTo_S24_S_d0 h_S_) (constant S_ .f32 0x45280000#32)))))) shapeCasts_S560x16x96x16_S8960x1536

theorem fn_eq (X : FVec Ideal S6x128x1536 .bf16) (W : FVec Ideal S8960x1536 .bf16) (H : FVec Ideal S24 .f32) :
    fn X W H = out (clr (quoV (extf .f32 W bitsLt_bf16_f32) (dq W H)) (upV (quoV (extf .f32 W bitsLt_bf16_f32) (dq W H)))) := by
  have h : fn X W H = fn_part1 (F := Ideal) (extf .f32 W bitsLt_bf16_f32) (dq W H) (cmpf .ogt (dq W H) (broadcastInDim S8960x1536 ![] bcast_S_S8960x1536 (constant S_ .f32 0x00000000#32))) := rfl
  rw [h, part1_eq, part2_eq, part3_eq, part4_eq, part5_eq, part6_eq, clr]

theorem dq_at (W : FVec Ideal S8960x1536 .bf16) (H : FVec Ideal S24 .f32) (r : Fin 8960) (j : Fin 1536) :
    dq W H (ix2 r j) = sBe W H r j * sT H := by
  unfold dq
  refine (Cert.ReferenceIdeal.Value.d_ref _ _ r j).trans ?_
  exact congrArg₂ (fun x y : EReal => x * y) (Cert.ReferenceIdeal.Value.sb_ref W H _ _) (Cert.ReferenceIdeal.Value.st_ref H _)

theorem and1 : ∀ a b : BitVec 1, IntOp.andi a b = 1#1 ↔ a = 1#1 ∧ b = 1#1 := by decide
theorem or1 : ∀ a b : BitVec 1, IntOp.ori a b = 1#1 ↔ a = 1#1 ∨ b = 1#1 := by decide

theorem cmp_ogt (a b : EReal) : Ideal.cmp .ogt a b = 1#1 ↔ b < a := by
  by_cases h : b < a <;> simp [Ideal.cmp, h]
theorem cmp_oge (a b : EReal) : Ideal.cmp .oge a b = 1#1 ↔ b ≤ a := by
  by_cases h : b ≤ a <;> simp [Ideal.cmp, h]

theorem cmp_ole (a b : EReal) : Ideal.cmp .ole a b = 1#1 ↔ a ≤ b := by
  by_cases h : a ≤ b <;> simp [Ideal.cmp, h]
theorem cmp_olt (a b : EReal) : Ideal.cmp .olt a b = 1#1 ↔ a < b := by
  by_cases h : a < b <;> simp [Ideal.cmp, h]

theorem upV_at (v : FVec Ideal S8960x1536 .f32) (r : Fin 8960) (j : Fin 1536) :
    (upV v (ix2 r j) : EReal) = v (ix2 r j) + (tau : EReal) := by
  rw [← c_tiny]
  unfold upV
  pointwise

theorem uptoV_at (v : FVec Ideal S8960x1536 .f32) (t : BitVec 32) (b : ℝ) (hb : Ideal.ofBits .f32 t = (b : EReal)) (r : Fin 8960) (j : Fin 1536) :
    uptoV v (upV v) t (ix2 r j) = 1#1 ↔ Upto (v (ix2 r j)) b := by
  have h : uptoV v (upV v) t (ix2 r j) = IntOp.ori (Ideal.cmp .ole (upV v (ix2 r j)) (Ideal.ofBits .f32 t)) (Ideal.cmp .ogt (v (ix2 r j)) (Ideal.ofBits .f32 t)) := by
    generalize upV v = u
    unfold uptoV
    pointwise
    try rfl
  rw [h, or1, cmp_ole, cmp_ogt, hb, upV_at, Upto]

theorem belowV_at (v : FVec Ideal S8960x1536 .f32) (t : BitVec 32) (b : ℝ) (hb : Ideal.ofBits .f32 t = (b : EReal)) (r : Fin 8960) (j : Fin 1536) :
    belowV v (upV v) t (ix2 r j) = 1#1 ↔ Below (v (ix2 r j)) b := by
  have h : belowV v (upV v) t (ix2 r j) = IntOp.ori (Ideal.cmp .olt (upV v (ix2 r j)) (Ideal.ofBits .f32 t)) (Ideal.cmp .oge (v (ix2 r j)) (Ideal.ofBits .f32 t)) := by
    generalize upV v = u
    unfold belowV
    pointwise
    try rfl
  rw [h, or1, cmp_olt, cmp_oge, hb, upV_at, Below]

theorem quoV_at (w d : FVec Ideal S8960x1536 .f32) (r : Fin 8960) (j : Fin 1536) :
    quoV w d (ix2 r j) = quo (w (ix2 r j)) (d (ix2 r j)) := by
  unfold quoV quo
  rw [sel_ogt, sel_ogt]
  pointwise

theorem andi_at (a b : IVec S8960x1536 1) (i : S8960x1536.Idx) : andi a b i = IntOp.andi (a i) (b i) := rfl

/-- A quotient that the mask keeps is not moved over a boundary. -/
theorem clr_at (v : FVec Ideal S8960x1536 .f32) (r : Fin 8960) (j : Fin 1536) (h : clr v (upV v) (ix2 r j) = 1#1) : Clear (v (ix2 r j)) := by
  unfold clr at h
  simp only [andi_at, and1] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  exact ⟨(belowV_at v _ _ Ideal.ofBits_zero_f32 r j).mp h0, (uptoV_at v _ _ c_quarter r j).mp h1, (uptoV_at v _ _ c_fiveq r j).mp h2, (uptoV_at v _ _ c_fiveh r j).mp h3, (uptoV_at v _ _ c_five r j).mp h4, (uptoV_at v _ _ c_nthreeq r j).mp h5, (uptoV_at v _ _ c_nsevenq r j).mp h6, (uptoV_at v _ _ c_nsevenh r j).mp h7, (belowV_at v _ _ c_threeq r j).mp h8, (belowV_at v _ _ c_sevenq r j).mp h9, (belowV_at v _ _ c_sevenh r j).mp h10, (belowV_at v _ _ c_nquarter r j).mp h11, (belowV_at v _ _ c_nfiveq r j).mp h12, (belowV_at v _ _ c_nfiveh r j).mp h13, (belowV_at v _ _ c_nfive r j).mp h14⟩

/-- The weights' quotients under the mask. -/
theorem clr_qx (W : FVec Ideal S8960x1536 .bf16) (H : FVec Ideal S24 .f32) (r : Fin 8960) (j : Fin 1536)
    (h : clr (quoV (extf .f32 W bitsLt_bf16_f32) (dq W H)) (upV (quoV (extf .f32 W bitsLt_bf16_f32) (dq W H))) (ix2 r j) = 1#1) : Clear (qx W H r j) := by
  have h1 := clr_at _ r j h
  rw [quoV_at, dq_at] at h1
  rw [← quo_qx]
  exact h1

theorem mask_k (X : FVec Ideal S6x128x1536 .bf16) (W : FVec Ideal S8960x1536 .bf16) (H : FVec Ideal S24 .f32) (r : Fin 8960) (p : Fin 768)
    (h : (fn X W H).2.1 (ix2 r p) = 1#1) : Clear (qx W H r ⟨2 * p.val, by omega⟩) ∧ Clear (qx W H r ⟨2 * p.val + 1, by omega⟩) := by
  rw [fn_eq] at h
  have hc := clr_qx W H
  generalize clr (quoV (extf .f32 W bitsLt_bf16_f32) (dq W H)) (upV (quoV (extf .f32 W bitsLt_bf16_f32) (dq W H))) = v at *
  have e : (out v).2.1 (ix2 r p) = IntOp.andi (v (ix2 r ⟨2 * p.val, by omega⟩)) (v (ix2 r ⟨1 + 2 * p.val, by omega⟩)) := by
    unfold out
    pointwise
  rw [e, and1, show (⟨1 + 2 * p.val, by omega⟩ : Fin 1536) = ⟨2 * p.val + 1, by omega⟩ from Fin.ext (Nat.add_comm _ _)] at h
  exact ⟨hc _ _ h.1, hc _ _ h.2⟩

theorem mask_n (X : FVec Ideal S6x128x1536 .bf16) (W : FVec Ideal S8960x1536 .bf16) (H : FVec Ideal S24 .f32) (j : Fin 1536) (p : Fin 4480)
    (h : (fn X W H).2.2.1 (ix2 j p) = 1#1) : Clear (qx W H ⟨2 * p.val, by omega⟩ j) ∧ Clear (qx W H ⟨2 * p.val + 1, by omega⟩ j) := by
  rw [fn_eq] at h
  have hc := clr_qx W H
  generalize clr (quoV (extf .f32 W bitsLt_bf16_f32) (dq W H)) (upV (quoV (extf .f32 W bitsLt_bf16_f32) (dq W H))) = v at *
  have e : (out v).2.2.1 (ix2 j p) = IntOp.andi (v (ix2 ⟨2 * p.val, by omega⟩ j)) (v (ix2 ⟨1 + 2 * p.val, by omega⟩ j)) := by
    unfold out
    pointwise
  rw [e, and1, show (⟨1 + 2 * p.val, by omega⟩ : Fin 8960) = ⟨2 * p.val + 1, by omega⟩ from Fin.ext (Nat.add_comm _ _)] at h
  exact ⟨hc _ _ h.1, hc _ _ h.2⟩

theorem fold_and {α : Type} [DecidableEq α] (f : α → BitVec 1) (s : Finset α) (h : s.fold IntOp.andi 1#1 f = 1#1) : ∀ a ∈ s, f a = 1#1 := by
  induction s using Finset.induction_on with
  | empty => intro a ha; simp at ha
  | insert b s hb ih =>
    rw [Finset.fold_insert hb, and1] at h
    intro a ha
    rcases Finset.mem_insert.mp ha with rfl | ha
    · exact h.1
    · exact ih h.2 a ha

theorem mask_y (X : FVec Ideal S6x128x1536 .bf16) (W : FVec Ideal S8960x1536 .bf16) (H : FVec Ideal S24 .f32) (i : Fin 768) (r : Fin 8960)
    (h : (fn X W H).1 (ix2 i r) = 1#1) (k : Fin 1536) : Clear (qx W H r k) := by
  rw [fn_eq] at h
  have hc := clr_qx W H
  generalize clr (quoV (extf .f32 W bitsLt_bf16_f32) (dq W H)) (upV (quoV (extf .f32 W bitsLt_bf16_f32) (dq W H))) = v at *
  have e : (out v).1 (ix2 i r) = Host.reduce IntOp.andi v (constantI S_ 1 1#1) reducesTo_S8960x1536_S8960_d1 h_S_ (ix1 r) := by
    unfold out
    pointwise
  rw [e] at h
  refine hc _ _ ?_
  pointwise at h
  exact fold_and _ _ h k (Finset.mem_univ k)

end Cert.On_off_ties
-- ==== Proof.lean ====
module

public import proofs.«01_k».proof.Defs
public import proofs.«01_k».proof.Proof.Gen.Kernel
public import proofs.«01_k».proof.Proof.KFrame
public import proofs.«01_k».proof.Proof.Gen.KernelIdeal
public import proofs.«01_k».proof.Proof.Ends
public import proofs.«01_k».proof.Proof.RefScales
public import proofs.«01_k».proof.Proof.YVal
public import proofs.«01_k».proof.Proof.Mask
public import Idealize.ShloMosaic.Adequacy
public import Idealize.ShloMosaic.Init

@[expose] public section

set_option maxRecDepth 16384

noncomputable section

namespace Cert.Proof

open Idealize.ShloMosaic Idealize.SL.Sem Cert.Q

/-- The mask's stated facts. -/
theorem maskFacts : Cert.On_off_ties.Facts where
  bitsLt_bf16_f32 := by decide
  shapeCasts_S8960x1536_S560x16x96x16 := by decide
  reducesTo_S560x16x96x16_S560x96_d1_3 := by decide
  h_S_ := by decide
  reducesTo_S24_S_d0 := by decide
  bcast_S_S560x96 := by decide
  bcast_S560x96_S560x1x96x1_0_2 := by decide
  bcast_S560x1x96x1_S560x16x96x16_0_1_2_3 := by decide
  shapeCasts_S560x16x96x16_S8960x1536 := by decide
  bcast_S_S8960x1536 := by decide
  reducesTo_S8960x1536_S8960_d1 := by decide
  bcast_S8960_S1x8960_1 := by decide
  bcast_S1x8960_S768x8960_0_1 := by decide
  slicesBy_S8960x1536_S8960x768_0s1_0s2 := by decide
  slicesBy_S8960x1536_S8960x768_0s1_1s2 := by decide
  slicesBy_S8960x1536_S4480x1536_0s2_0s1 := by decide
  slicesBy_S8960x1536_S4480x1536_1s2_0s1 := by decide
  transposes_S4480x1536_S1536x4480_1_0 := by decide
  bcast_S_S1 := by decide

/-- The two runs over the extended reals. -/
theorem agree : Cert.algebraic_KernelIdeal_ReferenceIdeal_on_off_ties (hKernelIdeal := Cert.KernelIdeal.Gen.facts)
    (hReferenceIdeal := Cert.ReferenceIdeal.Gen.facts) (hOn_off_ties := maskFacts) := by
  intro m g m' g' _ hm
  refine ⟨fun c => (Cert.KernelIdeal.Gen.dats m 0 c).arrAt 3 Cert.KernelIdeal.cfg0.N, fun c => (Cert.KernelIdeal.Gen.dats m 0 c).arrAt 4 Cert.KernelIdeal.cfg0.N,
    fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N, ?_, ?_⟩
  · refine (θ_run _ _ _).mono (fun r h c => ?_) (Cert.KernelIdeal.Gen.ends m g)
    obtain ⟨h0, h1, h2, h3, h4, h5, ha⟩ := h.1 c
    exact ⟨fun i _ => congrFun h0 i, fun i _ => congrFun h1 i, fun i _ => congrFun h2 i, fun i _ => congrFun h3 i, fun i _ => congrFun h4 i, fun i _ => congrFun h5 i, ha⟩
  · refine (θ_run _ _ _).mono (fun r h c => ?_) (Cert.ReferenceIdeal.Value.run m' g')
    obtain ⟨h0, h1, h2, h3, h4, h5, ha⟩ := h c
    obtain ⟨e0, e1, e2⟩ := hm c
    have hX : Cert.ReferenceIdeal.Value.rX m' c = Cert.KernelIdeal.Gen.aX m c := e0
    have hW : Cert.ReferenceIdeal.Value.rW m' c = Cert.KernelIdeal.Gen.aW m c := e1
    have hH : Cert.ReferenceIdeal.Value.rH m' c = Cert.KernelIdeal.Gen.aH m c := e2
    refine ⟨fun i hi => ?_, fun i hi => ?_, fun i hi => ?_, fun i _ => ?_, fun i _ => ?_, fun i _ => ?_, ha⟩
    · refine (congrFun h0 i).trans ?_
      rw [eq_ix2 i] at hi ⊢
      have hk := @Cert.On_off_ties.mask_y maskFacts (Cert.KernelIdeal.Gen.aX m c) (Cert.KernelIdeal.Gen.aW m c) (Cert.KernelIdeal.Gen.aH m c) _ _ hi
      refine (Cert.ReferenceIdeal.Value.v89_at m' c _ _).trans (.trans ?_ (Cert.KernelIdeal.Gen.y_at m c _ _).symm)
      rw [hX, hW, hH]
      refine congrArg (· * _) (Finset.sum_congr rfl fun k _ => ?_)
      rw [(clear_agree (hk k)).2]
    · refine (congrFun h1 i).trans ?_
      rw [eq_ix2 i] at hi ⊢
      obtain ⟨k0, k1⟩ := @Cert.On_off_ties.mask_k maskFacts (Cert.KernelIdeal.Gen.aX m c) (Cert.KernelIdeal.Gen.aW m c) (Cert.KernelIdeal.Gen.aH m c) _ _ hi
      refine (Cert.ReferenceIdeal.Value.v70_at m' c _ _).trans (.trans ?_ (Cert.KernelIdeal.Gen.ck_arr m c _ _).symm)
      rw [hW, hH]
      unfold Cert.KernelIdeal.Gen.kC
      rw [← (clear_agree k0).1, ← (clear_agree k1).1]
    · refine (congrFun h2 i).trans ?_
      rw [eq_ix2 i] at hi ⊢
      obtain ⟨k0, k1⟩ := @Cert.On_off_ties.mask_n maskFacts (Cert.KernelIdeal.Gen.aX m c) (Cert.KernelIdeal.Gen.aW m c) (Cert.KernelIdeal.Gen.aH m c) _ _ hi
      refine (Cert.ReferenceIdeal.Value.v77_at m' c _ _).trans (.trans ?_ (Cert.KernelIdeal.Gen.cn_arr m c _ _).symm)
      rw [hW, hH]
      unfold Cert.KernelIdeal.Gen.kC
      rw [← (clear_agree k0).1, ← (clear_agree k1).1]
    · refine (congrFun h3 i).trans (.trans ?_ (congrFun (Cert.KernelIdeal.Gen.arr6 m c) i).symm)
      rw [e1, e2, eq_ix2 i]
      exact (Cert.ReferenceIdeal.Value.sb_ref _ _ _ _).trans (Cert.KernelIdeal.Gen.sb_at m c _ _).symm
    · refine (congrFun h4 i).trans (.trans ?_ (congrFun (Cert.KernelIdeal.Gen.arr7 m c) i).symm)
      rw [Cert.ReferenceIdeal.Value.exit_main_v7 m' c, e2]
      exact (Cert.ReferenceIdeal.Value.st_ref _ _).trans (Cert.KernelIdeal.Gen.st_at m c).symm
    · refine (congrFun h5 i).trans (.trans ?_ (congrFun (Cert.KernelIdeal.Gen.arr8 m c) i).symm)
      rw [e1]
      exact (Cert.ReferenceIdeal.Value.wa_ref _ _).trans (Cert.KernelIdeal.Gen.wa_at m c).symm

/-- The claims. -/
theorem claim : Cert.Claim :=
  ⟨Cert.Kernel.Gen.facts, Cert.KernelIdeal.Gen.facts, Cert.ReferenceIdeal.Gen.facts, maskFacts, fun m ρ _ => Cert.Kernel.Gen.frame m ρ,
    fun m ρ _ => Cert.KernelIdeal.Gen.frame m ρ, fun m ρ _ => Cert.ReferenceIdeal.Gen.frame m ρ, trivial, agree⟩

end Cert.Proof

end
